-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x512 : Shape := ⟨2, ![1024, 512]⟩
abbrev S1024x256 : Shape := ⟨2, ![1024, 256]⟩
abbrev S8 : Shape := ⟨1, ![8]⟩
abbrev S_ : Shape := ⟨0, ![]⟩
abbrev S1x128x256 : Shape := ⟨3, ![1, 128, 256]⟩
abbrev S128x256 : Shape := ⟨2, ![128, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x1024, .bf16⟩
  | .hbm, ⟨1, _⟩ => ⟨S1024x512, .bf16⟩
  | .local _ .vmem, ⟨0, _⟩ => ⟨S1x1024x1024, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_dev3 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v37 : BitVec 32 := Scalar.muli v6 c2_i32_26
  let v38 : BitVec 32 := Scalar.addi c0_i32_27 v37
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v39 : BitVec 32 := Scalar.muli v5 c1_i32_28
  let v40 : BitVec 32 := Scalar.addi v38 v39
  v40.toNat
def k0_dev4 (d0 : Dev nD) : Nat :=
  let c0_i32_48 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_47 : BitVec 32 := 2#32
  let v67 : BitVec 32 := Scalar.muli v6 c2_i32_47
  let v68 : BitVec 32 := Scalar.addi c0_i32_48 v67
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_49 : BitVec 32 := 1#32
  let v69 : BitVec 32 := Scalar.muli v5 c1_i32_49
  let v70 : BitVec 32 := Scalar.addi v68 v69
  v70.toNat
def k0_dev5 (d0 : Dev nD) : Nat :=
  let c0_i32_68 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_67 : BitVec 32 := 2#32
  let v97 : BitVec 32 := Scalar.muli v6 c2_i32_67
  let v98 : BitVec 32 := Scalar.addi c0_i32_68 v97
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v99 : BitVec 32 := Scalar.muli v5 c1_i32_69
  let v100 : BitVec 32 := Scalar.addi v98 v99
  v100.toNat
def k0_dev6 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v127 : BitVec 32 := Scalar.muli v6 c2_i32_86
  let v128 : BitVec 32 := Scalar.addi c0_i32_87 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v129 : BitVec 32 := Scalar.muli v5 c1_i32_88
  let v130 : BitVec 32 := Scalar.addi v128 v129
  v130.toNat
def k0_dev7 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v157 : BitVec 32 := Scalar.muli v6 c2_i32_105
  let v158 : BitVec 32 := Scalar.addi c0_i32_106 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v159 : BitVec 32 := Scalar.muli v5 c1_i32_107
  let v160 : BitVec 32 := Scalar.addi v158 v159
  v160.toNat
def k0_dev8 (d0 : Dev nD) : Nat :=
  let c0_i32_125 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_124 : BitVec 32 := 2#32
  let v187 : BitVec 32 := Scalar.muli v6 c2_i32_124
  let v188 : BitVec 32 := Scalar.addi c0_i32_125 v187
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v189 : BitVec 32 := Scalar.muli v5 c1_i32_126
  let v190 : BitVec 32 := Scalar.addi v188 v189
  v190.toNat
def k0_dev9 (d0 : Dev nD) : Nat :=
  let c0_i32_144 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_143 : BitVec 32 := 2#32
  let v217 : BitVec 32 := Scalar.muli v6 c2_i32_143
  let v218 : BitVec 32 := Scalar.addi c0_i32_144 v217
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_145 : BitVec 32 := 1#32
  let v219 : BitVec 32 := Scalar.muli v5 c1_i32_145
  let v220 : BitVec 32 := Scalar.addi v218 v219
  v220.toNat
def k0_dev10 (d0 : Dev nD) : Nat :=
  let c0_i32_163 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_162 : BitVec 32 := 2#32
  let v247 : BitVec 32 := Scalar.muli v6 c2_i32_162
  let v248 : BitVec 32 := Scalar.addi c0_i32_163 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v249 : BitVec 32 := Scalar.muli v5 c1_i32_164
  let v250 : BitVec 32 := Scalar.addi v248 v249
  v250.toNat
def k0_off1 (d0 : Dev nD) : Fin 2 → Nat :=
  let c0_i32_195 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_189 : BitVec 32 := 256#32
  let v285 : BitVec 32 := Scalar.muli v5 c256_i32_189
  ![0, v285.toNat]
def k0_dev11 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v286 : BitVec 32 := Scalar.muli v2 c2_i32_192
  let v287 : BitVec 32 := Scalar.addi c0_i32_193 v286
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_194 : BitVec 32 := 1#32
  let v288 : BitVec 32 := Scalar.muli v7 c1_i32_194
  let v289 : BitVec 32 := Scalar.addi v287 v288
  v289.toNat
def k0_off2 (d0 : Dev nD) : Fin 2 → Nat :=
  let c128_i32_224 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_218 : BitVec 32 := 256#32
  let v324 : BitVec 32 := Scalar.muli v5 c256_i32_218
  ![128, v324.toNat]
def k0_dev12 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v325 : BitVec 32 := Scalar.muli v2 c2_i32_221
  let v326 : BitVec 32 := Scalar.addi c0_i32_222 v325
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_223 : BitVec 32 := 1#32
  let v327 : BitVec 32 := Scalar.muli v7 c1_i32_223
  let v328 : BitVec 32 := Scalar.addi v326 v327
  v328.toNat
def k0_off3 (d0 : Dev nD) : Fin 2 → Nat :=
  let c256_i32_253 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_247 : BitVec 32 := 256#32
  let v363 : BitVec 32 := Scalar.muli v5 c256_i32_247
  ![256, v363.toNat]
def k0_dev13 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v364 : BitVec 32 := Scalar.muli v2 c2_i32_250
  let v365 : BitVec 32 := Scalar.addi c0_i32_251 v364
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_252 : BitVec 32 := 1#32
  let v366 : BitVec 32 := Scalar.muli v7 c1_i32_252
  let v367 : BitVec 32 := Scalar.addi v365 v366
  v367.toNat
def k0_off4 (d0 : Dev nD) : Fin 2 → Nat :=
  let c384_i32_282 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_276 : BitVec 32 := 256#32
  let v402 : BitVec 32 := Scalar.muli v5 c256_i32_276
  ![384, v402.toNat]
def k0_dev14 (d0 : Dev nD) : Nat :=
  let c0_i32_280 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_279 : BitVec 32 := 2#32
  let v403 : BitVec 32 := Scalar.muli v2 c2_i32_279
  let v404 : BitVec 32 := Scalar.addi c0_i32_280 v403
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_281 : BitVec 32 := 1#32
  let v405 : BitVec 32 := Scalar.muli v7 c1_i32_281
  let v406 : BitVec 32 := Scalar.addi v404 v405
  v406.toNat
def k0_off5 (d0 : Dev nD) : Fin 2 → Nat :=
  let c512_i32_311 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_305 : BitVec 32 := 256#32
  let v441 : BitVec 32 := Scalar.muli v5 c256_i32_305
  ![512, v441.toNat]
def k0_dev15 (d0 : Dev nD) : Nat :=
  let c0_i32_309 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_308 : BitVec 32 := 2#32
  let v442 : BitVec 32 := Scalar.muli v2 c2_i32_308
  let v443 : BitVec 32 := Scalar.addi c0_i32_309 v442
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_310 : BitVec 32 := 1#32
  let v444 : BitVec 32 := Scalar.muli v7 c1_i32_310
  let v445 : BitVec 32 := Scalar.addi v443 v444
  v445.toNat
def k0_off6 (d0 : Dev nD) : Fin 2 → Nat :=
  let c640_i32_340 : BitVec 32 := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_334 : BitVec 32 := 256#32
  let v480 : BitVec 32 := Scalar.muli v5 c256_i32_334
  ![640, v480.toNat]
def k0_dev16 (d0 : Dev nD) : Nat :=
  let c0_i32_338 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_337 : BitVec 32 := 2#32
  let v481 : BitVec 32 := Scalar.muli v2 c2_i32_337
  let v482 : BitVec 32 := Scalar.addi c0_i32_338 v481
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_339 : BitVec 32 := 1#32
  let v483 : BitVec 32 := Scalar.muli v7 c1_i32_339
  let v484 : BitVec 32 := Scalar.addi v482 v483
  v484.toNat
def k0_off7 (d0 : Dev nD) : Fin 2 → Nat :=
  let c768_i32_369 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_363 : BitVec 32 := 256#32
  let v519 : BitVec 32 := Scalar.muli v5 c256_i32_363
  ![768, v519.toNat]
def k0_dev17 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v520 : BitVec 32 := Scalar.muli v2 c2_i32_366
  let v521 : BitVec 32 := Scalar.addi c0_i32_367 v520
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_368 : BitVec 32 := 1#32
  let v522 : BitVec 32 := Scalar.muli v7 c1_i32_368
  let v523 : BitVec 32 := Scalar.addi v521 v522
  v523.toNat
def k0_off8 (d0 : Dev nD) : Fin 2 → Nat :=
  let c896_i32_398 : BitVec 32 := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_392 : BitVec 32 := 256#32
  let v558 : BitVec 32 := Scalar.muli v5 c256_i32_392
  ![896, v558.toNat]
def k0_dev18 (d0 : Dev nD) : Nat :=
  let c0_i32_396 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_395 : BitVec 32 := 2#32
  let v559 : BitVec 32 := Scalar.muli v2 c2_i32_395
  let v560 : BitVec 32 := Scalar.addi c0_i32_396 v559
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_397 : BitVec 32 := 1#32
  let v561 : BitVec 32 := Scalar.muli v7 c1_i32_397
  let v562 : BitVec 32 := Scalar.addi v560 v561
  v562.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .f32⟩
  | .hbm, ⟨2, _⟩ => ⟨S_, .f32⟩
  | .hbm, ⟨3, _⟩ => ⟨S1024x1024, .f32⟩
  | .hbm, ⟨4, _⟩ => ⟨S1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.IdealCommon.lean ====
/-
The cells, the buffers' pieces, the contents and the schedule of the reduce-scatter kernel.

Devices sit on a 2 by 2 mesh, device `c` at `(c / 2, c % 2)`. `xp c` is the device across the first axis, `yp c` the one
across the second. Every buffer is handled in eight blocks of 128 rows, `k : Fin 8`, and the result also by column halves:

* `c` copies rows `k` of its send buffer to rows `k` of `xp c`'s receive buffer (cells `0 k` of `c`, `1 k` of `xp c`);
* `c` adds its own block and copies the sum, in its own column half, to the same place of `yp c`'s result
  (cells `2 k` of `c`, `3 k` of `yp c`);
* before any copy each device tells both neighbours, by one unit on their barrier cell, that their target is theirs.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.Ring
public import Idealize.ShloMosaic.Lib.Tactic

@[expose] public section

set_option maxRecDepth 16384

noncomputable section

namespace Cert.KernelIdealProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and this protocol's, duties named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

set_option backward.proofsInPublic true in
/-- The device across the first mesh axis. -/
def xp (c : Dev nD) : Dev nD := ⟨((c.val % 2) + 2) - 2 * (c.val / 2), by revert c; decide⟩
set_option backward.proofsInPublic true in
/-- The device across the second mesh axis. -/
def yp (c : Dev nD) : Dev nD := ⟨(2 * (c.val / 2) + 1) - c.val % 2, by revert c; decide⟩

theorem xp_xp (c : Dev nD) : xp (xp c) = c := by revert c; decide
theorem yp_yp (c : Dev nD) : yp (yp c) = c := by revert c; decide
theorem xp_ne_yp (c : Dev nD) : xp c ≠ yp c := by revert c; decide
theorem xp_div (c : Dev nD) : (xp c).val / 2 = 1 - c.val / 2 := by revert c; decide
theorem xp_mod (c : Dev nD) : (xp c).val % 2 = c.val % 2 := by revert c; decide
theorem yp_div (c : Dev nD) : (yp c).val / 2 = c.val / 2 := by revert c; decide
theorem yp_mod (c : Dev nD) : (yp c).val % 2 = 1 - c.val % 2 := by revert c; decide
theorem div_lt (c : Dev nD) : c.val / 2 < 2 := by revert c; decide
theorem mod_lt (c : Dev nD) : c.val % 2 < 2 := by revert c; decide

/-- Exchange across the first axis, as a permutation of the devices. -/
def swapX : Dev nD ≃ Dev nD := ⟨xp, xp, xp_xp, xp_xp⟩
/-- Exchange across the second axis, as a permutation of the devices. -/
def swapY : Dev nD ≃ Dev nD := ⟨yp, yp, yp_yp, yp_yp⟩

/-! ## The memrefs and cells -/

abbrev xM : Memref sig .tc .vmem S1x1024x1024 .bf16 := Memref.whole cc0_stg0_0
abbrev oM : Memref sig .tc .vmem S1024x512 .bf16 := Memref.whole cc0_stg1_0
abbrev sM : Memref sig .tc .vmem S1024x256 .bf16 := Memref.whole cc0_scratch0
abbrev rM : Memref sig .tc .vmem S1024x256 .bf16 := Memref.whole cc0_scratch1

/-- The runtime's barrier semaphore, not scoped to the launch. -/
abbrev barS : Sem sig := (SemArray.scalar (sig.barrier 0 rfl) : Sems sig S_).sem
set_option backward.proofsInPublic true in
/-- The kernel's own DMA semaphores: array `a` (send and receive of the first copy, send and receive of the second), entry `k`. -/
def dq (a : Fin 4) (k : Fin 8) : DmaSem sig := ⟨2 + 8 * a.val + k.val, by
  have ha := a.isLt; have hk := k.isLt; show _ < 34; omega⟩

abbrev barCell (c : Dev nD) : GSem nD τ sig := ((c : Thread nD τ), .reg barS)
abbrev dCell (c : Dev nD) (a : Fin 4) (k : Fin 8) : GSem nD τ sig := ((c : Thread nD τ), .dma (dq a k))

/-- The kernel's own (scoped) semaphores, as the launch theorem indexes them; -/
abbrev osem (ak : Fin 4 × Fin 8) : SemLoc sig := .dma (dq ak.1 ak.2)
/-- and all of the protocol's: the barrier, then those. -/
abbrev CI : Type := Unit ⊕ (Fin 4 × Fin 8)
abbrev csem : CI → SemLoc sig := Sum.elim (fun _ => .reg barS) osem
abbrev kcell (ck : Dev nD × CI) : GSem nD τ sig := ((ck.1 : Thread nD τ), csem ck.2)

theorem dq_inj {a a' : Fin 4} {k k' : Fin 8} (h : dq a k = dq a' k') : a = a' ∧ k = k' := by
  have := congrArg Fin.val h
  simp only [dq] at this
  exact ⟨Fin.ext (by omega), Fin.ext (by omega)⟩

/-! ## The pieces: eight blocks of 128 rows; of the result, by column halves -/

abbrev offR (k : Fin 8) : Fin 2 → ℕ := ![128 * k.val, 0]
theorem offR_inb (k : Fin 8) : ∀ a, offR k a + S128x256.size a ≤ S1024x256.size a := by revert k; decide
abbrev rectR (k : Fin 8) : Rect S1024x256 := Rect.unit (s := S1024x256) (offR k) S128x256.size (offR_inb k)

/-- Rows `k` and the column half of device `d` in the result. -/
abbrev offO (d : Dev nD) (k : Fin 8) : Fin 2 → ℕ := ![128 * k.val, 256 * (d.val % 2)]
theorem offO_inb (d : Dev nD) (k : Fin 8) : ∀ a, offO d k a + S128x256.size a ≤ S1024x512.size a := by revert d k; decide
abbrev rectO (d : Dev nD) (k : Fin 8) : Rect S1024x512 := Rect.unit (s := S1024x512) (offO d k) S128x256.size (offO_inb d k)

/-- Rows `k` of the columns that `c` sends away, in its argument block; -/
abbrev offX (c : Dev nD) (k : Fin 8) : Fin 3 → ℕ := ![0, 128 * k.val, (512 - 512 * (c.val / 2)) + 256 * (c.val % 2)]
theorem offX_inb (c : Dev nD) (k : Fin 8) : ∀ a, offX c k a + S1x128x256.size a ≤ S1x1024x1024.size a := by revert c k; decide
abbrev rectX (c : Dev nD) (k : Fin 8) : Rect S1x1024x1024 := Rect.unit (s := S1x1024x1024) (offX c k) S1x128x256.size (offX_inb c k)
/-- and of those it adds itself. -/
abbrev offA (c : Dev nD) (k : Fin 8) : Fin 3 → ℕ := ![0, 128 * k.val, 512 * (c.val / 2) + 256 * (c.val % 2)]
theorem offA_inb (c : Dev nD) (k : Fin 8) : ∀ a, offA c k a + S1x128x256.size a ≤ S1x1024x1024.size a := by revert c k; decide
abbrev rectA (c : Dev nD) (k : Fin 8) : Rect S1x1024x1024 := Rect.unit (s := S1x1024x1024) (offA c k) S1x128x256.size (offA_inb c k)

/-- The credit of one block's copy, the same for every copy of the kernel. -/
abbrev N : ℕ := (sM.slice (rectR 0) (fun _ => rfl) : Memref sig .tc .vmem S128x256 .bf16).view.dmaCredit
theorem N_pos : 0 < N := View.dmaCredit_pos _ (by decide)

/-! ## Contents -/

/-- Device `c`'s argument block, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The argument block of `c` at row `r`, column `j`. -/
def xat (c : Dev nD) (r : Fin 1024) (j : Fin 1024) : Elt F .bf16 := xstg m ρ c (ix3 (n0 := 1) (n1 := 1024) (n2 := 1024) 0 r j)

set_option backward.proofsInPublic true in
/-- What `c` puts in its send buffer: the columns of its block that `xp c` adds. -/
def sendC (c : Dev nD) : (cc0_scratch0 : Ref sig .tc).ty.Contents (Elt F) := fun j : S1024x256.Idx =>
  xat m ρ c (j 0) ⟨(512 - 512 * (c.val / 2)) + 256 * (c.val % 2) + (j 1).val, by
    have h0 : (j 1).val < 256 := (j 1).isLt
    have := div_lt c; have := mod_lt c; omega⟩
/-- What lands in `c`'s receive buffer. -/
def recvC (c : Dev nD) : (cc0_scratch1 : Ref sig .tc).ty.Contents (Elt F) := sendC m ρ (xp c)

/-- The device whose column half column `j` of `c`'s result lies in: `c` or `yp c`. -/
def half (c : Dev nD) (j : ℕ) : Dev nD := if j / 256 = c.val % 2 then c else yp c

set_option backward.proofsInPublic true in
/-- `c`'s result: at each column the sum of the half's device's block and of its partner's across the first axis. -/
def outC (c : Dev nD) : (cc0_stg1_0 : Ref sig .tc).ty.Contents (Elt F) := fun j : S1024x512.Idx =>
  let col : Fin 1024 := ⟨512 * (c.val / 2) + (j 1).val, by
    have h0 : (j 1).val < 512 := (j 1).isLt
    have := div_lt c; omega⟩
  FloatOps.addf (xat m ρ (half c (j 1).val) (j 0) col) (xat m ρ (xp (half c (j 1).val)) (j 0) col)

theorem half_yp (c : Dev nD) {j : ℕ} (hj : j < 512) : half (yp c) j = half c j := by
  have h : ∀ q : Fin 2, (if q.val = (yp c).val % 2 then yp c else yp (yp c)) = if q.val = c.val % 2 then c else yp c := by revert c; decide
  exact h ⟨j / 256, by omega⟩

/-- Both devices of a pair across the second axis end with the same result. -/
theorem outC_yp (c : Dev nD) : (outC m ρ (yp c) : S1024x512.Idx → Elt F .bf16) = outC m ρ c := by
  funext j
  have hj : (j 1).val < 512 := (j 1).isLt
  unfold outC
  simp only [half_yp c hj, yp_div]

/-! ## The pieces held -/

def xPts (c : Dev nD) : sProp 𝕄 := ((c : Thread nD τ).loc cc0_stg0_0) ↦{fullShare} xstg m ρ c
/-- Rows `k` of `c`'s send buffer; -/
def sP (c : Dev nD) (k : Fin 8) (f : Buf (Elt F) ((c : Thread nD τ).loc cc0_scratch0)) : sProp 𝕄 :=
  ((c : Thread nD τ).loc cc0_scratch0) ↦[(rectR k).set]{fullShare} f
/-- of its receive buffer; -/
def rP (c : Dev nD) (k : Fin 8) (f : Buf (Elt F) ((c : Thread nD τ).loc cc0_scratch1)) : sProp 𝕄 :=
  ((c : Thread nD τ).loc cc0_scratch1) ↦[(rectR k).set]{fullShare} f
/-- of its result, in the column half of `d`. -/
def oP (c d : Dev nD) (k : Fin 8) (f : Buf (Elt F) ((c : Thread nD τ).loc cc0_stg1_0)) : sProp 𝕄 :=
  ((c : Thread nD τ).loc cc0_stg1_0) ↦[(rectO d k).set]{fullShare} f

omit [FloatOps F] in
instance sP_storable (c : Dev nD) (k f) : BI.Storable (upEmb : UEmb _ 𝕄) (sP (F := F) c k f) := by unfold sP; infer_instance
omit [FloatOps F] in
instance rP_storable (c : Dev nD) (k f) : BI.Storable (upEmb : UEmb _ 𝕄) (rP (F := F) c k f) := by unfold rP; infer_instance
omit [FloatOps F] in
instance oP_storable (c d : Dev nD) (k f) : BI.Storable (upEmb : UEmb _ 𝕄) (oP (F := F) c d k f) := by unfold oP; infer_instance

/-! ## The schedule -/

/-- What `c`'s barrier round hands it: from `xp c` (duty `false`) `xp c`'s receive buffer, from `yp c` (duty `true`) the
    column half of `yp c`'s result that `c` fills; each by blocks, at whatever they hold. -/
def barPay (c : Dev nD) (d : Bool) : sProp 𝕄 :=
  if d then bigSep Finset.univ fun k => iprop(∃ f, oP (F := F) (yp c) c k f) else bigSep Finset.univ fun k => iprop(∃ f, rP (F := F) (xp c) k f)

/-- What the copies' cells hand `c`: its send rows back, the received rows, its result's own half back, the other half. -/
def dmaPay (c : Dev nD) (a : Fin 4) (k : Fin 8) : sProp 𝕄 := match a with
  | 0 => sP c k (sendC m ρ c) | 1 => rP c k (recvC m ρ c) | 2 => oP c c k (outC m ρ c) | 3 => oP c (yp c) k (outC m ρ c)

omit [FloatOps F] in
instance barPay_storable (c : Dev nD) (d) : BI.Storable (upEmb : UEmb _ 𝕄) (barPay (F := F) c d) := by
  unfold barPay; split <;> infer_instance
instance dmaPay_storable (c : Dev nD) (a k) : BI.Storable (upEmb : UEmb _ 𝕄) (dmaPay (F := F) m ρ c a k) := by
  unfold dmaPay; split <;> infer_instance

set_option backward.proofsInPublic true in
/-- The array and the entry of a DMA semaphore from its number. -/
def deq (n : ℕ) : Fin 4 × Fin 8 := (⟨(n - 2) / 8 % 4, Nat.mod_lt _ (by decide)⟩, ⟨(n - 2) % 8, Nat.mod_lt _ (by decide)⟩)
theorem deq_dq (a : Fin 4) (k : Fin 8) : deq (dq a k).val = (a, k) := by revert a k; decide

/-- One round, round 0: a barrier cell has two duties of one unit each, each copy's cell one duty of the block's credit. -/
def sched : Rounds.Schedule (GSem nD τ sig) Bool 𝕄 where
  duties g r := if r = 0 ∧ g.1.2 = .tc then (match g.2 with
    | .reg s => if s = barS then Finset.univ else ∅
    | .dma q => if 2 ≤ q.val then {false} else ∅) else ∅
  unitless _ := False
  amount g _ _ := match g.2 with | .reg _ => 1 | .dma _ => N
  payload g _ d := match g.2 with
    | .reg _ => barPay g.1.1 d
    | .dma q => dmaPay m ρ g.1.1 (deq q.val).1 (deq q.val).2
  amount_pos g _ _ _ := by
    split
    · exact Nat.one_pos
    · exact N_pos

instance sched_payload_storable (g : GSem nD τ sig) (r : ℕ) (d : Bool) :
    BI.Storable (upEmb : UEmb _ 𝕄) ((sched (F := F) m ρ).payload g r d) := by
  unfold sched; dsimp only; split <;> infer_instance

section Sched
variable (c : Dev nD) (a : Fin 4) (k : Fin 8)

theorem dq_ge : 2 ≤ (dq a k).val := by simp only [dq]; omega

theorem duties_bar : (sched (F := F) m ρ).duties (barCell c) 0 = Finset.univ := by
  dsimp only [sched]; rw [if_pos ⟨rfl, rfl⟩, if_pos rfl]
theorem duties_dma : (sched (F := F) m ρ).duties (dCell c a k) 0 = {false} := by
  dsimp only [sched]; rw [if_pos ⟨rfl, rfl⟩, if_pos (dq_ge a k)]
theorem duties_later (g : GSem nD τ sig) : ∀ r, 1 ≤ r → (sched (F := F) m ρ).duties g r = ∅ := fun r hr => by
  dsimp only [sched]; exact if_neg (fun h => by omega)

theorem amount_bar (d : Bool) : (sched (F := F) m ρ).amount (barCell c) 0 d = 1 := rfl
theorem amount_dma (d : Bool) : (sched (F := F) m ρ).amount (dCell c a k) 0 d = N := rfl

theorem expect_bar : (sched (F := F) m ρ).expect (barCell c) 0 = 2 := by
  unfold Schedule.expect; rw [duties_bar]; exact (Finset.sum_congr rfl fun d _ => amount_bar m ρ c d).trans rfl
theorem expect_dma : (sched (F := F) m ρ).expect (dCell c a k) 0 = N := by
  unfold Schedule.expect; rw [duties_dma]; exact (Finset.sum_singleton _ _).trans (amount_dma m ρ c a k false)

theorem payload_bar (d : Bool) : (sched (F := F) m ρ).payload (barCell c) 0 d = barPay c d := rfl
theorem payload_dma (d : Bool) : (sched (F := F) m ρ).payload (dCell c a k) 0 d = dmaPay m ρ c a k := by
  dsimp only [sched]; rw [deq_dq]

theorem rest_bar : bigSep ((sched (F := F) m ρ).duties (barCell c) 0 \ ∅) (fun d => (sched (F := F) m ρ).payload (barCell c) 0 d)
    = iprop(barPay (F := F) c false ∗ barPay (F := F) c true) := by
  rw [duties_bar, Finset.sdiff_empty, bigSep_univ_eq_bigSepL [false, true] (by decide) (by decide)]; rfl
theorem rest_dma : bigSep ((sched (F := F) m ρ).duties (dCell c a k) 0 \ ∅) (fun d => (sched (F := F) m ρ).payload (dCell c a k) 0 d)
    = dmaPay m ρ c a k := by
  rw [duties_dma, Finset.sdiff_empty, bigSep_singleton, payload_dma]

end Sched

/-! ## What is owed, and the levels -/

/-- What `c` still owes `xp c`'s receive cells for the blocks `l`; -/
def oweX (c : Dev nD) (l : List (Fin 8)) : CellTallies nD τ sig Unit := (l.map fun k => tallyAt (dCell (xp c) 1 k) () N).sum
/-- `yp c`'s. -/
def oweY (c : Dev nD) (l : List (Fin 8)) : CellTallies nD τ sig Unit := (l.map fun k => tallyAt (dCell (yp c) 3 k) () N).sum

abbrev all8 : List (Fin 8) := [0, 1, 2, 3, 4, 5, 6, 7]

/-- At its barrier wait `c` owes every copy; -/
def O₂ (c : Dev nD) : CellTallies nD τ sig Unit := oweX c all8 + oweY c all8
/-- before its second signal also a unit to `yp c`'s barrier; -/
def O₁ (c : Dev nD) : CellTallies nD τ sig Unit := O₂ c + tallyAt (barCell (yp c)) () 1
/-- at the start also a unit to `xp c`'s. -/
def O₀ (c : Dev nD) : CellTallies nD τ sig Unit := O₁ c + tallyAt (barCell (xp c)) () 1

theorem oweX_cons (c : Dev nD) (k : Fin 8) (l : List (Fin 8)) : oweX c (k :: l) = oweX c l + tallyAt (dCell (xp c) 1 k) () N := by
  unfold oweX; rw [List.map_cons, List.sum_cons, add_comm]
theorem oweY_cons (c : Dev nD) (k : Fin 8) (l : List (Fin 8)) : oweY c (k :: l) = oweY c l + tallyAt (dCell (yp c) 3 k) () N := by
  unfold oweY; rw [List.map_cons, List.sum_cons, add_comm]
theorem oweX_nil (c : Dev nD) : oweX c [] = 0 := rfl
theorem oweY_nil (c : Dev nD) : oweY c [] = 0 := rfl

def L (g : GSem nD τ sig) : Finset Unit := if g.1.2 = .tc then {()} else ∅
/-- Staging and send cells at 0, barrier cells at 1, the first copies' receive cells at 2, the second copies' at 3. -/
def lv (g : GSem nD τ sig) (_ : Unit) : ℕ := match g.2 with
  | .reg _ => 1
  | .dma q => if 2 ≤ q.val then (if (deq q.val).1 = 1 then 2 else if (deq q.val).1 = 3 then 3 else 0) else 0

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) (a : Fin 4) (k : Fin 8) (u : Unit) : lv (dCell c a k) u = if a = 1 then 2 else if a = 3 then 3 else 0 := by
  dsimp only [lv]; rw [if_pos (dq_ge a k), deq_dq]

theorem oweX_pos {c : Dev nD} {l : List (Fin 8)} {g : GSem nD τ sig} {u : Unit} (h : 0 < oweX c l g u) : ∃ k, g = dCell (xp c) 1 k := by
  induction l with
  | nil => exact absurd h (Nat.lt_irrefl 0)
  | cons k l ih =>
    rw [oweX_cons, Pi.add_apply, Finsupp.add_apply, tallyAt_apply] at h
    by_cases hg : g = dCell (xp c) 1 k
    · exact ⟨k, hg⟩
    · rw [if_neg (fun h' => hg h'.1)] at h; exact ih h
theorem oweY_pos {c : Dev nD} {l : List (Fin 8)} {g : GSem nD τ sig} {u : Unit} (h : 0 < oweY c l g u) : ∃ k, g = dCell (yp c) 3 k := by
  induction l with
  | nil => exact absurd h (Nat.lt_irrefl 0)
  | cons k l ih =>
    rw [oweY_cons, Pi.add_apply, Finsupp.add_apply, tallyAt_apply] at h
    by_cases hg : g = dCell (yp c) 3 k
    · exact ⟨k, hg⟩
    · rw [if_neg (fun h' => hg h'.1)] at h; exact ih h

/-- Owing copies only. -/
theorem owe_pos {c : Dev nD} {l l' : List (Fin 8)} {g : GSem nD τ sig} {u : Unit} (h : 0 < (oweX c l + oweY c l') g u) :
    (∃ k, g = dCell (xp c) 1 k) ∨ ∃ k, g = dCell (yp c) 3 k := by
  rw [Pi.add_apply, Finsupp.add_apply] at h
  rcases Nat.eq_zero_or_pos (oweX c l g u) with h0 | h0
  · rw [h0, Nat.zero_add] at h; exact Or.inr (oweY_pos h)
  · exact Or.inl (oweX_pos h0)

theorem O₀_pos {c : Dev nD} {g : GSem nD τ sig} {u : Unit} (h : 0 < O₀ c g u) :
    g.1.2 = .tc ∧ 1 ≤ lv g u := by
  unfold O₀ O₁ at h
  rw [Pi.add_apply, Finsupp.add_apply, Pi.add_apply, Finsupp.add_apply, tallyAt_apply, tallyAt_apply] at h
  by_cases h1 : g = barCell (xp c)
  · subst h1; exact ⟨rfl, Nat.le_refl 1⟩
  by_cases h2 : g = barCell (yp c)
  · subst h2; exact ⟨rfl, Nat.le_refl 1⟩
  rw [if_neg (fun h' => h2 h'.1), if_neg (fun h' => h1 h'.1)] at h
  rcases owe_pos (c := c) h with ⟨k, rfl⟩ | ⟨k, rfl⟩
  · exact ⟨rfl, by rw [lv_dma]; decide⟩
  · exact ⟨rfl, by rw [lv_dma]; decide⟩

omit [FloatOps F] in
/-- A staging cell may be waited on at any time. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; dsimp only [lv]; rw [if_neg (by omega)])
      (fun g u hg => (O₀_pos hg).2)
  · rw [MayWait_zero]; iintro -; iempintro

omit [FloatOps F] in
/-- The barrier wait, owing copies only. -/
theorem mayWait_bar (c : Dev nD) : (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases owe_pos (c := c) hg with ⟨k, rfl⟩ | ⟨k, rfl⟩ <;> exact Finset.mem_singleton_self _)
    (fun p hp => by rw [Finset.mem_singleton.mp hp]; exact Nat.le_refl 1)
    (fun g u hg => by rcases owe_pos (c := c) hg with ⟨k, rfl⟩ | ⟨k, rfl⟩ <;> rw [lv_dma] <;> decide)

omit [FloatOps F] in
/-- The waits for the first copies, owing second copies only. -/
theorem mayWait_recvX (c : Dev nD) (k : Fin 8) (l : List (Fin 8)) :
    (levAts L lv : sProp 𝕄) ⊢ MayWait (c : Thread nD τ) (.dma (dq 1 k)) () (oweY c l) :=
  MayOwe.of_cut (L := L) (lev := lv) 2 (fun p hp => by rw [Finset.mem_singleton.mp hp, L_tc]; exact Finset.mem_singleton_self _)
    (fun g u hg => by obtain ⟨k', rfl⟩ := oweY_pos hg; exact Finset.mem_singleton_self _)
    (fun p hp => by rw [Finset.mem_singleton.mp hp]; exact Nat.le_of_eq (lv_dma c 1 k ()))
    (fun g u hg => by obtain ⟨k', rfl⟩ := oweY_pos hg; rw [lv_dma]; decide)

end Cert.KernelIdealProof

end
-- ==== Proof.IdealSteps.lean ====
/-
What every device knows, the states of a block, and the values that the staging, the additions and the copies leave.
-/
module

public import proofs.«01_k».proof.Proof.IdealCommon

@[expose] public section

set_option maxRecDepth 16384

noncomputable section

namespace Cert.KernelIdealProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows: the cells' invariants, that they are at round 0, the levels -/

def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

def ctx (K : Dev nD × CI → ℕ) : sProp 𝕄 := iprop(records m ρ K ∗ levAts L lv)

instance ctx_persistent (K : Dev nD × CI → ℕ) : BI.Persistent (ctx m ρ K) := by unfold ctx; infer_instance

variable (K : Dev nD × CI → ℕ)

theorem inv_of (ck : Dev nD × CI) :
    (bigSep Finset.univ fun ck : Dev nD × CI => (cellInv ER (sched m ρ) (K ck) (kcell ck) : sProp 𝕄)) ⊢ cellInv ER (sched m ρ) (K ck) (kcell ck) :=
  bigSep_elim (Finset.mem_univ ck)
theorem reached_of (ck : Dev nD × CI) :
    (bigSep Finset.univ fun ck : Dev nD × CI => (reached ER (kcell ck) 0 : sProp 𝕄)) ⊢ reached ER (kcell ck) 0 :=
  bigSep_elim (Finset.mem_univ ck)

theorem inv_at (ck : Dev nD × CI) : ctx m ρ K ⊢ cellInv ER (sched m ρ) (K ck) (kcell ck) := by
  unfold ctx records
  iintro ⟨⟨HI, -⟩, -⟩
  iapply (inv_of m ρ K ck); iexact HI
theorem reached_at (ck : Dev nD × CI) : ctx m ρ K ⊢ reached ER (kcell ck) 0 := by
  unfold ctx records
  iintro ⟨⟨-, HR⟩, -⟩
  iapply (reached_of (F := F) ck); iexact HR
theorem lev_at : ctx m ρ K ⊢ levAts L lv := by
  unfold ctx
  iintro ⟨-, H⟩; iexact H

/-! ## The states of a block -/

/-- What `c` owes, whatever it has waited for. -/
def ow (c : Dev nD) (O : CellTallies nD τ sig Unit) : sProp 𝕄 := iprop(∃ W, owes (c : Thread nD τ) O W)

/-- What the copy of block `k` across the first axis needs beside its source and target: the two duties' tokens, and `c`'s
    place at its send cell; -/
def tX (c : Dev nD) (k : Fin 8) : sProp 𝕄 :=
  iprop(dutyTok ER (dCell c 0 k) 0 false ∗ dutyTok ER (dCell (xp c) 1 k) 0 false ∗ atPos ER (dCell c 0 k) 0 ∅ 0)
/-- across the second axis. -/
def tY (c : Dev nD) (k : Fin 8) : sProp 𝕄 :=
  iprop(dutyTok ER (dCell c 2 k) 0 false ∗ dutyTok ER (dCell (yp c) 3 k) 0 false ∗ atPos ER (dCell c 2 k) 0 ∅ 0)

/-- Cell `a k` still to be waited for; -/
def wt (c : Dev nD) (a : Fin 4) (k : Fin 8) : sProp 𝕄 := iprop(cred (tallyAt (dCell c a k) () N) ∗ atPos ER (dCell c a k) 0 ∅ 0)
/-- waited for, closed, its payload in hand. -/
def dn (c : Dev nD) (a : Fin 4) (k : Fin 8) : sProp 𝕄 := iprop(dmaPay m ρ c a k ∗ semVal (dCell c a k) 0)

/-- Block `k` of the send buffer before and after staging; -/
def s0 (c : Dev nD) (k : Fin 8) : sProp 𝕄 := iprop(∃ f, sP (F := F) c k f)
def s1 (c : Dev nD) (k : Fin 8) : sProp 𝕄 := sP c k (sendC m ρ c)
/-- block `k` of `d`'s receive buffer, before the copy; -/
def r0 (d : Dev nD) (k : Fin 8) : sProp 𝕄 := iprop(∃ f, rP (F := F) d k f)
/-- of `d`'s result in the half of `e`, before and after the addition. -/
def o0 (d e : Dev nD) (k : Fin 8) : sProp 𝕄 := iprop(∃ f, oP (F := F) d e k f)
def o1 (c : Dev nD) (k : Fin 8) : sProp 𝕄 := oP c c k (outC m ρ c)

/-! ## Values -/

/-- The payloads of the staging stores: a block without its unit axis. -/
theorem pay_stage (v : Vec F S1x128x256 .bf16) (x : S128x256.Idx) :
    k0_pay1 v x = v (ix3 (n0 := 1) (n1 := 128) (n2 := 256) 0 (x 0) (x 1)) := by
  unfold k0_pay1
  rw [shapeCast_self]
  refine (shapeCast_dropUnit_apply ![128, 256] v _ x).trans (congrArg v ?_)
  funext a; fin_cases a <;> rfl

/-- Of the additions' stores: that block plus the received one. -/
theorem pay_acc (v : Vec F S1x128x256 .bf16) (w : Vec F S128x256 .bf16) (x : S128x256.Idx) :
    k0_pay33 v w x = FloatOps.addf (v (ix3 (n0 := 1) (n1 := 128) (n2 := 256) 0 (x 0) (x 1))) (w x) := by
  unfold k0_pay33
  show FloatOps.addf (shapeCast S128x256 v _ x) (w x) = _
  refine congrArg (fun y => FloatOps.addf y (w x)) ?_
  refine (shapeCast_dropUnit_apply ![128, 256] v _ x).trans (congrArg v ?_)
  funext a; fin_cases a <;> rfl

theorem xstg_eq_xat (c : Dev nD) (i : (cc0_stg0_0 : Ref sig .tc).ty.shape.Idx) (r j : Fin 1024)
    (hr : (i (1 : Fin 3)).val = r.val) (hj : (i (2 : Fin 3)).val = j.val) : xstg m ρ c i = xat m ρ c r j := by
  unfold xat
  refine congrArg (xstg m ρ c) ?_
  funext a; fin_cases a
  · exact Fin.ext (by have : (i (0 : Fin 3)).val < 1 := (i (0 : Fin 3)).isLt; show (i (0 : Fin 3)).val = 0; omega)
  · exact Fin.ext hr
  · exact Fin.ext hj

theorem stage_val (c : Dev nD) (k : Fin 8) (f : (cc0_scratch0 : Ref sig .tc).ty.Contents (Elt F)) (i : (cc0_scratch0 : Ref sig .tc).ty.shape.Idx)
    (hi : i ∈ (rectR k).set) :
    (sM.access (rectR k)).write (Elt F) f (k0_pay1 (xM.view.readAt (Elt F) (rectX c k).toLoadRect (xstg m ρ c))) Finset.univ i = sendC m ρ c i := by
  rw [← Rect.map_emb_univ] at hi
  obtain ⟨x, -, rfl⟩ := Finset.mem_map.mp hi
  have hw : ∀ w : S128x256.Idx → Elt F .bf16, (sM.access (rectR k)).write (Elt F) f w Finset.univ ((rectR k).emb x) = w x :=
    fun w => View.write_emb_of_mem (v := sM.access (rectR k)) f w (Finset.mem_univ x)
  refine (hw _).trans ((pay_stage _ x).trans ?_)
  refine (xstg_eq_xat m ρ c _ (((rectR k).emb x) 0) ⟨(512 - 512 * (c.val / 2)) + 256 * (c.val % 2) + (((rectR k).emb x) 1).val, ?_⟩ ?_ ?_).trans ?_
  · have h1 : (((rectR k).emb x) 1).val < 256 := (((rectR k).emb x) 1).isLt
    have := div_lt c; have := mod_lt c; omega
  · show 128 * k.val + 1 * (x 0).val = 128 * k.val + 1 * (x 0).val; rfl
  rotate_left
  · unfold sendC; rfl
  · show (512 - 512 * (c.val / 2)) + 256 * (c.val % 2) + 1 * (x 1).val = (512 - 512 * (c.val / 2)) + 256 * (c.val % 2) + (0 + 1 * (x 1).val); omega

theorem acc_val (c : Dev nD) (k : Fin 8) (f : (cc0_stg1_0 : Ref sig .tc).ty.Contents (Elt F)) (i : (cc0_stg1_0 : Ref sig .tc).ty.shape.Idx)
    (hi : i ∈ (rectO c k).set) :
    (oM.access (rectO c k)).write (Elt F) f (k0_pay33 (xM.view.readAt (Elt F) (rectA c k).toLoadRect (xstg m ρ c))
      (rM.view.readAt (Elt F) (rectR k).toLoadRect (recvC m ρ c))) Finset.univ i = outC m ρ c i := by
  rw [← Rect.map_emb_univ] at hi
  obtain ⟨x, -, rfl⟩ := Finset.mem_map.mp hi
  have hw : ∀ w : S128x256.Idx → Elt F .bf16, (oM.access (rectO c k)).write (Elt F) f w Finset.univ ((rectO c k).emb x) = w x :=
    fun w => View.write_emb_of_mem (v := oM.access (rectO c k)) f w (Finset.mem_univ x)
  refine (hw _).trans ((pay_acc _ _ x).trans ?_)
  have hx0 : (x 0).val < 128 := (x 0).isLt
  have hx1 : (x 1).val < 256 := (x 1).isLt
  have hm := mod_lt c
  have hd := div_lt c
  have hh : half c (((rectO c k).emb x) 1).val = c := by
    unfold half
    rw [if_pos]
    show (256 * (c.val % 2) + 1 * (x 1).val) / 256 = c.val % 2
    omega
  unfold outC
  dsimp only
  rw [hh]
  refine congrArg₂ FloatOps.addf ?_ ?_
  · refine xstg_eq_xat m ρ c _ _ _ ?_ ?_
    · show 128 * k.val + 1 * (x 0).val = 128 * k.val + 1 * (x 0).val; rfl
    · show 512 * (c.val / 2) + 256 * (c.val % 2) + 1 * (x 1).val = 512 * (c.val / 2) + (256 * (c.val % 2) + 1 * (x 1).val); omega
  · show xat m ρ (xp c) _ _ = xat m ρ (xp c) _ _
    refine congrArg₂ (xat m ρ (xp c)) (Fin.ext rfl) (Fin.ext ?_)
    show (512 - 512 * ((xp c).val / 2)) + 256 * ((xp c).val % 2) + (0 + 1 * (x 1).val) = 512 * (c.val / 2) + (256 * (c.val % 2) + 1 * (x 1).val)
    rw [xp_div, xp_mod]; omega

/-- What a copy lands, at the rows it copies: the source's contents there. -/
theorem landX_val (c : Dev nD) (k : Fin 8) (fd : (cc0_scratch1 : Ref sig .tc).ty.Contents (Elt F)) (i : (cc0_scratch1 : Ref sig .tc).ty.shape.Idx)
    (hi : i ∈ (rectR k).set) :
    (rM.slice (rectR k) (fun _ => rfl)).view.write (Elt F) fd ((sM.slice (rectR k) (fun _ => rfl)).view.read (Elt F) (sendC m ρ c)) Finset.univ i
      = recvC m ρ (xp c) i := by
  rw [← Rect.map_emb_univ] at hi
  obtain ⟨x, -, rfl⟩ := Finset.mem_map.mp hi
  refine (View.write_emb_of_mem (v := (rM.slice (rectR k) (fun _ => rfl)).view) fd _ (Finset.mem_univ x)).trans ?_
  unfold recvC; rw [xp_xp]; rfl

theorem landY_val (c : Dev nD) (k : Fin 8) (fd : (cc0_stg1_0 : Ref sig .tc).ty.Contents (Elt F)) (i : (cc0_stg1_0 : Ref sig .tc).ty.shape.Idx)
    (hi : i ∈ (rectO c k).set) :
    (oM.slice (rectO c k) (fun _ => rfl)).view.write (Elt F) fd ((oM.slice (rectO c k) (fun _ => rfl)).view.read (Elt F) (outC m ρ c)) Finset.univ i
      = outC m ρ (yp c) i := by
  rw [← Rect.map_emb_univ] at hi
  obtain ⟨x, -, rfl⟩ := Finset.mem_map.mp hi
  refine (View.write_emb_of_mem (v := (oM.slice (rectO c k) (fun _ => rfl)).view) fd _ (Finset.mem_univ x)).trans ?_
  exact (congrFun (outC_yp m ρ c) _).symm

end Cert.KernelIdealProof

end
-- ==== Proof.IdealRules.lean ====
/-
One lemma per kind of step of the body, each for any device `c` and block `k`: the two signals, the staging of a block, the
barrier wait, the two copies, the addition, and a wait on any of the copies' cells.
-/
module

public import proofs.«01_k».proof.Proof.IdealSteps

@[expose] public section

set_option maxRecDepth 16384

noncomputable section

namespace Cert.KernelIdealProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The barrier -/

theorem barPay_false (c : Dev nD) : barPay (F := F) c false = bigSep Finset.univ fun k => r0 (F := F) (xp c) k := rfl
theorem barPay_true (c : Dev nD) : barPay (F := F) c true = bigSep Finset.univ fun k => o0 (F := F) (yp c) c k := rfl

/-- The signal to `xp c`, which hands over `c`'s receive buffer. -/
theorem wp_sigX (c n : Dev nD) (hn : n = xp c) {α : Type} {Q : α → sProp 𝕄} {k' : PUnit → Prog (TpuEff nD τ sig (Elt F) Λ₀ .tc) α} :
    ctx m ρ K ⊢ iprop(ow (F := F) c (O₀ c) -∗ dutyTok ER (barCell (xp c)) 0 false -∗ (bigSep Finset.univ fun k => r0 (F := F) c k)
      -∗ (ow (F := F) c (O₁ c) -∗ wp frame (wpE (defs₀ (F := F)) 𝒱₀ (c : Thread nD τ) none) Set.univ (k' ⟨⟩) Q)
      -∗ wp frame (wpE (defs₀ (F := F)) 𝒱₀ (c : Thread nD τ) none) Set.univ (.op (.semSignal (n : Thread nD τ) barS 1) k') Q) := by
  subst hn
  unfold ow
  iintro #Hc ⟨%W, HO⟩ Ht Hr Hk
  iapply (Rounds.wp_signal 𝒱₀ ER (sched m ρ) (c : Thread nD τ) none (dst := (xp c : Thread nD τ)) (κ := K (xp c, .inl ()))
      (d := false) (by rw [duties_bar]; exact Finset.mem_univ _) (amount_bar m ρ (xp c) false) () (O₁ c) rfl)
    $$ [HO Ht Hr]
  · isplitr; · iapply (inv_at m ρ K (xp c, .inl ())); iexact Hc
    isplitl [HO]; · iexact HO
    isplitl [Ht]; · iexact Ht
    isplitl [Hr]; · rw [payload_bar, barPay_false, xp_xp]; iexact Hr
    iapply (reached_at m ρ K (xp c, .inl ())); iexact Hc
  iintro HO
  iapply Hk
  iexists W; iexact HO

/-- The signal to `yp c`, which hands over `c`'s other column half. -/
theorem wp_sigY (c n : Dev nD) (hn : n = yp c) {α : Type} {Q : α → sProp 𝕄} {k' : PUnit → Prog (TpuEff nD τ sig (Elt F) Λ₀ .tc) α} :
    ctx m ρ K ⊢ iprop(ow (F := F) c (O₁ c) -∗ dutyTok ER (barCell (yp c)) 0 true -∗ (bigSep Finset.univ fun k => o0 (F := F) c (yp c) k)
      -∗ (ow (F := F) c (oweX c all8 + oweY c all8) -∗ wp frame (wpE (defs₀ (F := F)) 𝒱₀ (c : Thread nD τ) none) Set.univ (k' ⟨⟩) Q)
      -∗ wp frame (wpE (defs₀ (F := F)) 𝒱₀ (c : Thread nD τ) none) Set.univ (.op (.semSignal (n : Thread nD τ) barS 1) k') Q) := by
  subst hn
  unfold ow
  iintro #Hc ⟨%W, HO⟩ Ht Hr Hk
  iapply (Rounds.wp_signal 𝒱₀ ER (sched m ρ) (c : Thread nD τ) none (dst := (yp c : Thread nD τ)) (κ := K (yp c, .inl ()))
      (d := true) (by rw [duties_bar]; exact Finset.mem_univ _) (amount_bar m ρ (yp c) true) () (O₂ c) rfl)
    $$ [HO Ht Hr]
  · isplitr; · iapply (inv_at m ρ K (yp c, .inl ())); iexact Hc
    isplitl [HO]; · iexact HO
    isplitl [Ht]; · iexact Ht
    isplitl [Hr]; · rw [payload_bar, barPay_true, yp_yp]; iexact Hr
    iapply (reached_at m ρ K (yp c, .inl ())); iexact Hc
  iintro HO
  iapply Hk
  iexists W; iexact HO

/-- The barrier wait, which brings `xp c`'s receive buffer and the half of `yp c`'s result that `c` fills. -/
theorem wp_bar (c : Dev nD) {α : Type} {Q : α → sProp 𝕄} {k' : PUnit → Prog (TpuEff nD τ sig (Elt F) Λ₀ .tc) α} :
    ctx m ρ K ⊢ iprop(ow (F := F) c (oweX c all8 + oweY c all8) -∗ cred (tallyAt (barCell c) () 2) -∗ atPos ER (barCell c) 0 ∅ 0
      -∗ ((ow (F := F) c (oweX c all8 + oweY c all8) ∗ semVal (barCell c) 0 ∗ (bigSep Finset.univ fun k => r0 (F := F) (xp c) k)
          ∗ (bigSep Finset.univ fun k => o0 (F := F) (yp c) c k))
        -∗ wp frame (wpE (defs₀ (F := F)) 𝒱₀ (c : Thread nD τ) none) Set.univ (k' ⟨⟩) Q)
      -∗ wp frame (wpE (defs₀ (F := F)) 𝒱₀ (c : Thread nD τ) none) Set.univ (.op (.semWait barS 2) k') Q) := by
  unfold ow
  iintro #Hc ⟨%W, HO⟩ Hcr Hat Hk
  iapply (Rounds.wp_wait_rest_token 𝒱₀ ER (sched m ρ) (c : Thread nD τ) none (κ := K (c, .inl ()))
      (wpE_semWait_eq 𝒱₀ (c : Thread nD τ) none Set.univ) (Set.mem_univ _) () (O := O₂ c) (W := W) (R := 0) (m := 0) (T := ∅)
      (by rw [expect_bar])) $$ [Hcr HO Hat]
  · isplitr; · iapply (inv_at m ρ K (c, .inl ())); iexact Hc
    isplitl [Hcr]; · iexact Hcr
    isplitl [HO]; · iexact HO
    isplitr; · iapply (mayWait_bar c); iapply (lev_at m ρ K); iexact Hc
    iexact Hat
  iintro ⟨HO, Hat, -, Hpay⟩
  ihave Hp := (Entails.of_eq ((rest_bar m ρ c).trans (by rw [barPay_false, barPay_true]))) $$ Hpay
  imod (Rounds.cell_close ER (sched m ρ) (Set.mem_univ (K (c, .inl ()))) (fun h => h) (R := 0 + 1) (duties_later m ρ (barCell c))) $$ [Hat] with Hz
  · isplitr; · iapply (inv_at m ρ K (c, .inl ())); iexact Hc
    iexact Hat
  icases Hp with ⟨H1, H2⟩
  iapply Hk
  isplitl [HO]; · iexists _; iexact HO
  isplitl [Hz]; · iexact Hz
  isplitl [H1]; · iexact H1
  iexact H2

/-! ## A wait on a copy's cell -/

theorem wp_dma (c : Dev nD) (a : Fin 4) (k : Fin 8) {q : DmaSem sig} (hq : q = dq a k) (O : CellTallies nD τ sig Unit)
    (hO : (levAts L lv : sProp 𝕄) ⊢ MayWait (c : Thread nD τ) (.dma (dq a k)) () O)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = N)
    {α : Type} {Q : α → sProp 𝕄} {k' : PUnit → Prog (TpuEff nD τ sig (Elt F) Λ₀ .tc) α} :
    ctx m ρ K ⊢ iprop(ow (F := F) c O -∗ wt (F := F) c a k
      -∗ ((ow (F := F) c O ∗ dn m ρ c a k) -∗ wp frame (wpE (defs₀ (F := F)) 𝒱₀ (c : Thread nD τ) none) Set.univ (k' ⟨⟩) Q)
      -∗ wp frame (wpE (defs₀ (F := F)) 𝒱₀ (c : Thread nD τ) none) Set.univ (.op (.waitDma2 q src dst hsrc hdst) k') Q) := by
  subst hq
  unfold ow wt dn
  iintro #Hc ⟨%W, HO⟩ ⟨Hcr, Hat⟩ Hk
  iapply (Rounds.wp_wait_rest_token 𝒱₀ ER (sched m ρ) (c : Thread nD τ) none (κ := K (c, .inr (a, k)))
      (wpE_waitDma2_eq 𝒱₀ (c : Thread nD τ) none Set.univ) (Set.mem_univ _) () (O := O) (W := W) (R := 0) (m := 0) (T := ∅)
      (by rw [expect_dma, Nat.zero_add, hN])) $$ [Hcr HO Hat]
  · isplitr; · iapply (inv_at m ρ K (c, .inr (a, k))); iexact Hc
    isplitl [Hcr]; · rw [hN]; iexact Hcr
    isplitl [HO]; · iexact HO
    isplitr; · iapply hO; iapply (lev_at m ρ K); iexact Hc
    iexact Hat
  iintro ⟨HO, Hat, -, Hpay⟩
  ihave Hp := (Entails.of_eq (rest_dma m ρ c a k)) $$ Hpay
  imod (Rounds.cell_close ER (sched m ρ) (Set.mem_univ (K (c, .inr (a, k)))) (fun h => h) (R := 0 + 1) (duties_later m ρ (dCell c a k))) $$ [Hat] with Hz
  · isplitr; · iapply (inv_at m ρ K (c, .inr (a, k))); iexact Hc
    iexact Hat
  iapply Hk
  isplitl [HO]; · iexists _; iexact HO
  isplitl [Hp]; · iexact Hp
  iexact Hz

/-- Owing nothing, any cell may be waited on. -/
theorem mayWait_nil (c : Dev nD) (a : Fin 4) (k : Fin 8) : (levAts L lv : sProp 𝕄) ⊢ MayWait (c : Thread nD τ) (.dma (dq a k)) () (oweY c []) := by
  rw [oweY_nil, MayWait_zero]; iintro -; iempintro

/-- The wait with the destination named as rows of `sM`. -/
theorem wp_dmaS (c : Dev nD) (a : Fin 4) (k : Fin 8) {q : DmaSem sig} (hq : q = dq a k) (O : CellTallies nD τ sig Unit)
    (hO : (levAts L lv : sProp 𝕄) ⊢ MayWait (c : Thread nD τ) (.dma (dq a k)) () O)
    {sp' : Space} {s' : Shape} {e' : EltTy} {src : Memref sig .tc sp' s' e'} {off : Fin 2 → ℕ}
    {inb : ∀ a, off a + S128x256.size a ≤ S1024x256.size a} {hu hsrc hdst}
    {α : Type} {Q : α → sProp 𝕄} {k' : PUnit → Prog (TpuEff nD τ sig (Elt F) Λ₀ .tc) α} :
    ctx m ρ K ⊢ iprop(ow (F := F) c O -∗ wt (F := F) c a k
      -∗ ((ow (F := F) c O ∗ dn m ρ c a k) -∗ wp frame (wpE (defs₀ (F := F)) 𝒱₀ (c : Thread nD τ) none) Set.univ (k' ⟨⟩) Q)
      -∗ wp frame (wpE (defs₀ (F := F)) 𝒱₀ (c : Thread nD τ) none) Set.univ
        (.op (.waitDma2 q src (sM.slice (Rect.unit (s := S1024x256) off S128x256.size inb) hu) hsrc hdst) k') Q) :=
  wp_dma m ρ K c a k hq O hO (src := src) (dst := sM.slice (Rect.unit (s := S1024x256) off S128x256.size inb) hu) (hsrc := hsrc) (hdst := hdst) rfl

/-- The wait with the destination named as rows of `rM`. -/
theorem wp_dmaR (c : Dev nD) (a : Fin 4) (k : Fin 8) {q : DmaSem sig} (hq : q = dq a k) (O : CellTallies nD τ sig Unit)
    (hO : (levAts L lv : sProp 𝕄) ⊢ MayWait (c : Thread nD τ) (.dma (dq a k)) () O)
    {sp' : Space} {s' : Shape} {e' : EltTy} {src : Memref sig .tc sp' s' e'} {off : Fin 2 → ℕ}
    {inb : ∀ a, off a + S128x256.size a ≤ S1024x256.size a} {hu hsrc hdst}
    {α : Type} {Q : α → sProp 𝕄} {k' : PUnit → Prog (TpuEff nD τ sig (Elt F) Λ₀ .tc) α} :
    ctx m ρ K ⊢ iprop(ow (F := F) c O -∗ wt (F := F) c a k
      -∗ ((ow (F := F) c O ∗ dn m ρ c a k) -∗ wp frame (wpE (defs₀ (F := F)) 𝒱₀ (c : Thread nD τ) none) Set.univ (k' ⟨⟩) Q)
      -∗ wp frame (wpE (defs₀ (F := F)) 𝒱₀ (c : Thread nD τ) none) Set.univ
        (.op (.waitDma2 q src (rM.slice (Rect.unit (s := S1024x256) off S128x256.size inb) hu) hsrc hdst) k') Q) :=
  wp_dma m ρ K c a k hq O hO (src := src) (dst := rM.slice (Rect.unit (s := S1024x256) off S128x256.size inb) hu) (hsrc := hsrc) (hdst := hdst) rfl

/-- The wait with the destination named as rows of `oM`. -/
theorem wp_dmaO (c : Dev nD) (a : Fin 4) (k : Fin 8) {q : DmaSem sig} (hq : q = dq a k) (O : CellTallies nD τ sig Unit)
    (hO : (levAts L lv : sProp 𝕄) ⊢ MayWait (c : Thread nD τ) (.dma (dq a k)) () O)
    {sp' : Space} {s' : Shape} {e' : EltTy} {src : Memref sig .tc sp' s' e'} {off : Fin 2 → ℕ}
    {inb : ∀ a, off a + S128x256.size a ≤ S1024x512.size a} {hu hsrc hdst}
    {α : Type} {Q : α → sProp 𝕄} {k' : PUnit → Prog (TpuEff nD τ sig (Elt F) Λ₀ .tc) α} :
    ctx m ρ K ⊢ iprop(ow (F := F) c O -∗ wt (F := F) c a k
      -∗ ((ow (F := F) c O ∗ dn m ρ c a k) -∗ wp frame (wpE (defs₀ (F := F)) 𝒱₀ (c : Thread nD τ) none) Set.univ (k' ⟨⟩) Q)
      -∗ wp frame (wpE (defs₀ (F := F)) 𝒱₀ (c : Thread nD τ) none) Set.univ
        (.op (.waitDma2 q src (oM.slice (Rect.unit (s := S1024x512) off S128x256.size inb) hu) hsrc hdst) k') Q) :=
  wp_dma m ρ K c a k hq O hO (src := src) (dst := oM.slice (Rect.unit (s := S1024x512) off S128x256.size inb) hu) (hsrc := hsrc) (hdst := hdst) rfl

theorem setOn_whole (b : Ref sig .tc) (S : Finset b.ty.shape.Idx) : (Memref.whole b : Memref sig .tc _ _ _).view.setOn S = S := Finset.map_refl

/-- The first copies all paid, only the second ones are owed. -/
theorem ow_paid (c : Dev nD) (R : CellTallies nD τ sig Unit) : ow (F := F) c (oweX c [] + R) ⊢ ow (F := F) c R := by
  rw [oweX_nil, zero_add]

/-- The mesh neighbours as the kernel computes them. -/
theorem devX {n : ℕ} (h : n < nD) (c : Dev nD) (e : n = ((c.val % 2) + 2) - 2 * (c.val / 2)) : (⟨n, h⟩ : Dev nD) = xp c := Fin.ext e
theorem devY {n : ℕ} (h : n < nD) (c : Dev nD) (e : n = (2 * (c.val / 2) + 1) - c.val % 2) : (⟨n, h⟩ : Dev nD) = yp c := Fin.ext e

/-! ## Staging and adding a block -/

theorem wp_stage (c : Dev nD) (k : Fin 8) {off3 : Fin 3 → ℕ} {off2 : Fin 2 → ℕ} (h3 : off3 = offX c k) (h2 : off2 = offR k)
    {inb3 : ∀ a, off3 a + S1x128x256.size a ≤ S1x1024x1024.size a} {inb2 inb2' : ∀ a, off2 a + S128x256.size a ≤ S1024x256.size a}
    {hl hl' hx hm} {α : Type} {Q : α → sProp 𝕄} {k' : PUnit → Prog (TpuEff nD τ sig (Elt F) Λ₀ .tc) α} :
    xPts m ρ c ⊢ iprop(s0 (F := F) c k
      -∗ ((xPts m ρ c ∗ s1 m ρ c k) -∗ wp frame (wpE (defs₀ (F := F)) 𝒱₀ (c : Thread nD τ) none) Set.univ (k' ⟨⟩) Q)
      -∗ wp frame (wpE (defs₀ (F := F)) 𝒱₀ (c : Thread nD τ) none) Set.univ
        (.op (.load xM (Rect.unit (s := S1x1024x1024) off3 S1x128x256.size inb3).toLoadRect hl) fun v =>
          .op (.load sM (Rect.unit (s := S1024x256) off2 S128x256.size inb2).toLoadRect hl') fun _ =>
          .op (.store sM (Rect.unit (s := S1024x256) off2 S128x256.size inb2') (k0_pay1 v) Finset.univ hx hm) k') Q) := by
  subst h3 h2
  unfold s0 s1 xPts sP
  iintro Hx ⟨%f, Hs⟩ Hk
  iapply (wp_load 𝒱₀ (c : Thread nD τ) none Set.univ (m := xM) (Finset.subset_univ _)) $$ Hx; iintro Hx
  iapply (wp_load 𝒱₀ (c : Thread nD τ) none Set.univ (m := sM) (S := (rectR k).set) (setOn_whole _ _).subset) $$ Hs; iintro Hs
  iapply (wp_store 𝒱₀ (c : Thread nD τ) none Set.univ (m := sM) (r := rectR k) (Mk := Finset.univ) (S := (rectR k).set)
    (View.set_slice_whole _ _).subset) $$ Hs; iintro Hs
  iapply Hk
  isplitl [Hx]; · iexact Hx
  iapply (Entails.of_eq (pointsTo_congr (ℓ := (c : Thread nD τ).loc cc0_scratch0) (q := fullShare) (fun i hi => stage_val m ρ c k f i hi)))
  iexact Hs

theorem wp_acc (c : Dev nD) (k : Fin 8) {off3 : Fin 3 → ℕ} {off2 offo : Fin 2 → ℕ} (h3 : off3 = offA c k) (h2 : off2 = offR k) (ho : offo = offO c k)
    {inb3 : ∀ a, off3 a + S1x128x256.size a ≤ S1x1024x1024.size a} {inb2 : ∀ a, off2 a + S128x256.size a ≤ S1024x256.size a}
    {inbo inbo' : ∀ a, offo a + S128x256.size a ≤ S1024x512.size a}
    {hl hl' hl'' hx hm} {α : Type} {Q : α → sProp 𝕄} {k' : PUnit → Prog (TpuEff nD τ sig (Elt F) Λ₀ .tc) α} :
    xPts m ρ c ⊢ iprop(dn m ρ c 1 k -∗ o0 (F := F) c c k
      -∗ ((xPts m ρ c ∗ dn m ρ c 1 k ∗ o1 m ρ c k) -∗ wp frame (wpE (defs₀ (F := F)) 𝒱₀ (c : Thread nD τ) none) Set.univ (k' ⟨⟩) Q)
      -∗ wp frame (wpE (defs₀ (F := F)) 𝒱₀ (c : Thread nD τ) none) Set.univ
        (.op (.load xM (Rect.unit (s := S1x1024x1024) off3 S1x128x256.size inb3).toLoadRect hl) fun v =>
          .op (.load rM (Rect.unit (s := S1024x256) off2 S128x256.size inb2).toLoadRect hl') fun w =>
          .op (.load oM (Rect.unit (s := S1024x512) offo S128x256.size inbo).toLoadRect hl'') fun _ =>
          .op (.store oM (Rect.unit (s := S1024x512) offo S128x256.size inbo') (k0_pay33 v w) Finset.univ hx hm) k') Q) := by
  subst h3 h2 ho
  unfold dn o0 o1 xPts oP
  rw [show dmaPay m ρ c 1 k = rP c k (recvC m ρ c) from rfl]
  unfold rP
  iintro Hx ⟨Hr, Hz⟩ ⟨%f, Ho⟩ Hk
  iapply (wp_load 𝒱₀ (c : Thread nD τ) none Set.univ (m := xM) (Finset.subset_univ _)) $$ Hx; iintro Hx
  iapply (wp_load 𝒱₀ (c : Thread nD τ) none Set.univ (m := rM) (S := (rectR k).set) (setOn_whole _ _).subset) $$ Hr; iintro Hr
  iapply (wp_load 𝒱₀ (c : Thread nD τ) none Set.univ (m := oM) (S := (rectO c k).set) (setOn_whole _ _).subset) $$ Ho; iintro Ho
  iapply (wp_store 𝒱₀ (c : Thread nD τ) none Set.univ (m := oM) (r := rectO c k) (Mk := Finset.univ) (S := (rectO c k).set)
    (View.set_slice_whole _ _).subset) $$ Ho; iintro Ho
  iapply Hk
  isplitl [Hx]; · iexact Hx
  isplitl [Hr Hz]; · isplitl [Hr] <;> iassumption
  iapply (Entails.of_eq (pointsTo_congr (ℓ := (c : Thread nD τ).loc cc0_stg1_0) (q := fullShare) (fun i hi => acc_val m ρ c k f i hi)))
  iexact Ho

/-! ## The copies -/

theorem wp_copyX (c n : Dev nD) (hn : n = xp c) (k : Fin 8) (l : List (Fin 8)) (R : CellTallies nD τ sig Unit) {off : Fin 2 → ℕ} (hoff : off = offR k)
    {inb inb' : ∀ a, off a + S128x256.size a ≤ S1024x256.size a} {hu hu'} {qs qr : DmaSem sig} (hqs : qs = dq 0 k) (hqr : qr = dq 1 k)
    {hsc hsrc hdst hsem} {α : Type} {Q : α → sProp 𝕄} {k' : PUnit → Prog (TpuEff nD τ sig (Elt F) Λ₀ .tc) α} :
    ctx m ρ K ⊢ iprop(ow (F := F) c (oweX c (k :: l) + R) -∗ s1 m ρ c k -∗ tX (F := F) c k -∗ r0 (F := F) (xp c) k
      -∗ ((ow (F := F) c (oweX c l + R) ∗ wt (F := F) c 0 k) -∗ wp frame (wpE (defs₀ (F := F)) 𝒱₀ (c : Thread nD τ) none) Set.univ (k' ⟨⟩) Q)
      -∗ wp frame (wpE (defs₀ (F := F)) 𝒱₀ (c : Thread nD τ) none) Set.univ
        (.op (.enqueueDma (sM.slice (Rect.unit (s := S1024x256) off S128x256.size inb) hu)
          (.remote (Dev.tc n : Thread nD τ) (rM.slice (Rect.unit (s := S1024x256) off S128x256.size inb') hu') (.dma qs) hsc) (.dma qr) hsrc hdst hsem) k') Q) := by
  subst hn hoff hqs hqr
  unfold ow s1 tX r0 wt sP rP
  iintro #Hc ⟨%W, HO⟩ Hs ⟨Ht1, Ht2, Hat⟩ ⟨%fn, Hr⟩ Hk
  iapply (Rounds.wp_send_pointsTo 𝒱₀ ER (sched m ρ) (c : Thread nD τ) none (c' := (Dev.tc (xp c) : Thread nD τ)) (src := sM.slice (rectR k) (fun _ => rfl))
    (dst := (rM.slice (rectR k) (fun _ => rfl) : Memref sig (Dev.tc (xp c) : Thread nD τ).2.kind .vmem S128x256 .bf16))
    (sS := .dma (dq 0 k)) (sem := .dma (dq 1 k)) (κ₁ := K (c, .inr (0, k))) (κ₂ := K (xp c, .inr (1, k)))
    (r₁ := 0) (r₂ := 0) (d₁ := false) (d₂ := false) (fs := sendC m ρ c) (fd := fn)
    (by rw [duties_dma]; exact Finset.mem_singleton_self _) (by rw [duties_dma]; exact Finset.mem_singleton_self _)
    () () N rfl (amount_dma m ρ c 0 k false) (amount_dma m ρ (xp c) 1 k false) (oweX c l + R) (show oweX c (k :: l) + R = _ by rw [oweX_cons]; ac_rfl) (W := W)
    (by rw [payload_dma]; exact Entails.of_eq (by unfold dmaPay sP; rw [show (sM.slice (rectR k) (fun _ => rfl)).view.set = (rectR k).set from View.set_slice_whole _ _]))
    (by rw [payload_dma]; exact Entails.of_eq (by
          unfold dmaPay rP
          rw [show (rM.slice (rectR k) (fun _ => rfl)).view.set = (rectR k).set from View.set_slice_whole _ _]
          exact pointsTo_congr (fun i hi => landX_val m ρ c k fn i hi)))) $$ [Hs Hr HO Ht1 Ht2]
  · isplitr; · iapply (inv_at m ρ K (c, .inr (0, k))); iexact Hc
    isplitr; · iapply (inv_at m ρ K (xp c, .inr (1, k))); iexact Hc
    rw [show (rM.slice (rectR k) (fun _ => rfl)).view.set = (rectR k).set from View.set_slice_whole _ _,
      show (sM.slice (rectR k) (fun _ => rfl)).view.set = (rectR k).set from View.set_slice_whole _ _]
    isplitl [Hs]; · iexact Hs
    isplitl [Hr]; · iexact Hr
    isplitl [HO]; · iexact HO
    isplitl [Ht1]; · iexact Ht1
    isplitr; · iapply (reached_at m ρ K (c, .inr (0, k))); iexact Hc
    isplitl [Ht2]; · iexact Ht2
    iapply (reached_at m ρ K (xp c, .inr (1, k))); iexact Hc
  iintro ⟨Hcr, HO⟩
  iapply Hk
  isplitl [HO]; · iexists _; iexact HO
  isplitl [Hcr] <;> iassumption

theorem wp_copyY (c n : Dev nD) (hn : n = yp c) (k : Fin 8) (l : List (Fin 8)) {off : Fin 2 → ℕ} (hoff : off = offO c k)
    {inb inb' : ∀ a, off a + S128x256.size a ≤ S1024x512.size a} {hu hu'} {qs qr : DmaSem sig} (hqs : qs = dq 2 k) (hqr : qr = dq 3 k)
    {hsc hsrc hdst hsem} {α : Type} {Q : α → sProp 𝕄} {k' : PUnit → Prog (TpuEff nD τ sig (Elt F) Λ₀ .tc) α} :
    ctx m ρ K ⊢ iprop(ow (F := F) c (oweY c (k :: l)) -∗ o1 m ρ c k -∗ tY (F := F) c k -∗ o0 (F := F) (yp c) c k
      -∗ ((ow (F := F) c (oweY c l) ∗ wt (F := F) c 2 k) -∗ wp frame (wpE (defs₀ (F := F)) 𝒱₀ (c : Thread nD τ) none) Set.univ (k' ⟨⟩) Q)
      -∗ wp frame (wpE (defs₀ (F := F)) 𝒱₀ (c : Thread nD τ) none) Set.univ
        (.op (.enqueueDma (oM.slice (Rect.unit (s := S1024x512) off S128x256.size inb) hu)
          (.remote (Dev.tc n : Thread nD τ) (oM.slice (Rect.unit (s := S1024x512) off S128x256.size inb') hu') (.dma qs) hsc) (.dma qr) hsrc hdst hsem) k') Q) := by
  subst hn hoff hqs hqr
  unfold ow o1 tY o0 wt oP
  iintro #Hc ⟨%W, HO⟩ Hs ⟨Ht1, Ht2, Hat⟩ ⟨%fn, Hr⟩ Hk
  iapply (Rounds.wp_send_pointsTo 𝒱₀ ER (sched m ρ) (c : Thread nD τ) none (c' := (Dev.tc (yp c) : Thread nD τ)) (src := oM.slice (rectO c k) (fun _ => rfl))
    (dst := (oM.slice (rectO c k) (fun _ => rfl) : Memref sig (Dev.tc (yp c) : Thread nD τ).2.kind .vmem S128x256 .bf16))
    (sS := .dma (dq 2 k)) (sem := .dma (dq 3 k)) (κ₁ := K (c, .inr (2, k))) (κ₂ := K (yp c, .inr (3, k)))
    (r₁ := 0) (r₂ := 0) (d₁ := false) (d₂ := false) (fs := outC m ρ c) (fd := fn)
    (by rw [duties_dma]; exact Finset.mem_singleton_self _) (by rw [duties_dma]; exact Finset.mem_singleton_self _)
    () () N rfl (amount_dma m ρ c 2 k false) (amount_dma m ρ (yp c) 3 k false) (oweY c l) (oweY_cons c k l) (W := W)
    (by rw [payload_dma]; exact Entails.of_eq (by unfold dmaPay oP; rw [show (oM.slice (rectO c k) (fun _ => rfl)).view.set = (rectO c k).set from View.set_slice_whole _ _]))
    (by rw [payload_dma]; exact Entails.of_eq (by
          unfold dmaPay oP
          dsimp only
          rw [yp_yp]
          rw [show (oM.slice (rectO c k) (fun _ => rfl)).view.set = (rectO c k).set from View.set_slice_whole _ _]
          exact pointsTo_congr (fun i hi => landY_val m ρ c k fn i hi)))) $$ [Hs Hr HO Ht1 Ht2]
  · isplitr; · iapply (inv_at m ρ K (c, .inr (2, k))); iexact Hc
    isplitr; · iapply (inv_at m ρ K (yp c, .inr (3, k))); iexact Hc
    rw [show (oM.slice (rectO c k) (fun _ => rfl)).view.set = (rectO c k).set from View.set_slice_whole _ _]
    isplitl [Hs]; · iexact Hs
    isplitl [Hr]; · iexact Hr
    isplitl [HO]; · iexact HO
    isplitl [Ht1]; · iexact Ht1
    isplitr; · iapply (reached_at m ρ K (c, .inr (2, k))); iexact Hc
    isplitl [Ht2]; · iexact Ht2
    iapply (reached_at m ρ K (yp c, .inr (3, k))); iexact Hc
  iintro ⟨Hcr, HO⟩
  iapply Hk
  isplitl [HO]; · iexists _; iexact HO
  isplitl [Hcr] <;> iassumption

end Cert.KernelIdealProof

end
-- ==== Proof.IdealBody.lean ====
/-
The kernel's body on any device, run from what the launch hands over to what it takes back, by the lemmas of the steps.
-/
module

public import proofs.«01_k».proof.Proof.IdealRules

@[expose] public section

set_option maxRecDepth 16384

noncomputable section

namespace Cert.KernelIdealProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-- A test for a place on the mesh. -/
theorem cond_iff (a b p q : BitVec 32) :
    (Scalar.cmpi .ne (Scalar.extui (Scalar.andi (Scalar.cmpi .eq a p) (Scalar.cmpi .eq b q)) : BitVec 32) 0#32 = 1#1) ↔ (a = p ∧ b = q) := by
  have h : ∀ u v : Bool, (Scalar.cmpi .ne (Scalar.extui (Scalar.andi (BitVec.ofBool u) (BitVec.ofBool v)) : BitVec 32) 0#32 = 1#1) ↔ (u = true ∧ v = true) := by decide
  have e : ∀ x y : BitVec 32, Scalar.cmpi .eq x y = BitVec.ofBool (x == y) := fun x y => rfl
  rw [e, e, h, beq_iff_eq, beq_iff_eq]

/-- The eight blocks, one by one. -/
theorem bigSep_all8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL all8 (by decide) (by decide) Φ
theorem join8 (Φ : Fin 8 → sProp 𝕄) :
    Φ 0 ⊢ iprop(Φ 1 -∗ Φ 2 -∗ Φ 3 -∗ Φ 4 -∗ Φ 5 -∗ Φ 6 -∗ Φ 7 -∗ bigSep Finset.univ Φ) := by
  rw [bigSep_all8]
  iintro H0 H1 H2 H3 H4 H5 H6 H7
  isplitl [H0]; · iexact H0
  isplitl [H1]; · iexact H1
  isplitl [H2]; · iexact H2
  isplitl [H3]; · iexact H3
  isplitl [H4]; · iexact H4
  isplitl [H5]; · iexact H5
  isplitl [H6] <;> iassumption

/-- What the body starts from beside the shared knowledge: the argument block; what is owed; of the barrier its tokens, credit and
    place; the receive buffer and the result's other half, to hand over; the send buffer and the result's own half; the copies'
    tokens and places; the cells that the neighbours' copies raise. -/
def coreA (c : Dev nD) : sProp 𝕄 :=
  iprop(xPts m ρ c ∗ ow (F := F) c (O₀ c)
    ∗ (dutyTok ER (barCell (xp c)) 0 false ∗ dutyTok ER (barCell (yp c)) 0 true ∗ cred (tallyAt (barCell c) () 2) ∗ atPos ER (barCell c) 0 ∅ 0)
    ∗ (bigSep Finset.univ fun k => r0 (F := F) c k) ∗ (bigSep Finset.univ fun k => o0 (F := F) c (yp c) k)
    ∗ (bigSep Finset.univ fun k => s0 (F := F) c k) ∗ (bigSep Finset.univ fun k => o0 (F := F) c c k)
    ∗ (bigSep Finset.univ fun k => tX (F := F) c k) ∗ (bigSep Finset.univ fun k => tY (F := F) c k)
    ∗ (bigSep Finset.univ fun k => wt (F := F) c 1 k) ∗ (bigSep Finset.univ fun k => wt (F := F) c 3 k))

/-- What it ends with: the argument block, nothing owed, the barrier at zero, and every copy's cell waited for. -/
def coreB (c : Dev nD) : sProp 𝕄 :=
  iprop(xPts m ρ c ∗ ow (F := F) c (oweY c []) ∗ semVal (barCell c) 0
    ∗ (bigSep Finset.univ fun k => dn m ρ c 0 k) ∗ (bigSep Finset.univ fun k => dn m ρ c 1 k)
    ∗ (bigSep Finset.univ fun k => dn m ρ c 2 k) ∗ (bigSep Finset.univ fun k => dn m ρ c 3 k))

set_option maxHeartbeats 4000000 in
/-- The body, executed from `coreA` to `coreB`, one step after the other. The place on the mesh decides which branches are taken:
    the device at each of the four places is run by the same steps. -/
theorem core (c : Dev nD) (a b : Fin 2) (hc : c = ⟨2 * a.val + b.val, by have := a.isLt; have := b.isLt; show _ < 4; omega⟩) (Kt : PUnit → sProp 𝕄) :
    ctx m ρ K ⊢ iprop(coreA m ρ c -∗ (coreB m ρ c -∗ Kt ⟨⟩) -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt) := by
  have hv2 : Scalar.remsi (Scalar.divsi (Dev.word c) 2#32) 2#32 = BitVec.ofNat 32 a.val := by subst hc; revert a b; decide
  have hv5 : Scalar.remsi (Scalar.divsi (Dev.word c) 1#32) 2#32 = BitVec.ofNat 32 b.val := by subst hc; revert a b; decide
  unfold coreA coreB
  iintro #Hc ⟨Hx, Ho, ⟨HtX, HtY, HcB, HaB⟩, HrO, HoO, HS, HO, HX, HY, HW, HV⟩ Hk
  ihave HS := (Entails.of_eq (bigSep_all8 _)) $$ HS; icases HS with ⟨HS0, HS1, HS2, HS3, HS4, HS5, HS6, HS7⟩
  ihave HO := (Entails.of_eq (bigSep_all8 _)) $$ HO; icases HO with ⟨HO0, HO1, HO2, HO3, HO4, HO5, HO6, HO7⟩
  ihave HX := (Entails.of_eq (bigSep_all8 _)) $$ HX; icases HX with ⟨HX0, HX1, HX2, HX3, HX4, HX5, HX6, HX7⟩
  ihave HY := (Entails.of_eq (bigSep_all8 _)) $$ HY; icases HY with ⟨HY0, HY1, HY2, HY3, HY4, HY5, HY6, HY7⟩
  ihave HW := (Entails.of_eq (bigSep_all8 _)) $$ HW; icases HW with ⟨HW0, HW1, HW2, HW3, HW4, HW5, HW6, HW7⟩
  ihave HV := (Entails.of_eq (bigSep_all8 _)) $$ HV; icases HV with ⟨HV0, HV1, HV2, HV3, HV4, HV5, HV6, HV7⟩
  simp only [cc0_body_eq_skeleton, cc0_body_skel]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part1_skel
  simp only [semSignalWord, semWaitWord, Prog.lift, Prog.bind_op, Prog.bind_ret, Prog.pure_eq_ret, wp_deviceId, hv2, hv5, cond_iff]
  fin_cases a <;> fin_cases b
  all_goals
    simp only [Prog.lift, Prog.bind_op, Prog.bind_ret, Prog.pure_eq_ret, and_true, and_false, false_and, true_and,
      ↓reduceDIte, eq_self, k0_part1_skel, k0_part2_skel, k0_part3_skel, k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel,
      semSignalWord, semWaitWord, wp_deviceId, hv2, hv5, cond_iff, BitVec.reduceEq, BitVec.reduceOfNat, Fin.isValue]
    subst hc
    iapply (wp_sigX m ρ K _ _ (devX (k0_dev1_lt _) _ (k0_dev1_eq _))) $$ Hc Ho HtX HrO; iintro Ho
    iapply (wp_sigY m ρ K _ _ (devY (k0_dev2_lt _) _ (k0_dev2_eq _))) $$ Hc Ho HtY HoO; iintro Ho
    iapply (wp_stage m ρ _ 0 rfl rfl) $$ Hx HS0; iintro ⟨Hx, HS0⟩
    iapply (wp_bar m ρ K _) $$ Hc Ho HcB HaB; iintro ⟨Ho, HzB, Hr, Hq⟩
    ihave Hr' := (Entails.of_eq (bigSep_all8 _)) $$ Hr; icases Hr' with ⟨HR0, HR1, HR2, HR3, HR4, HR5, HR6, HR7⟩
    ihave Hq' := (Entails.of_eq (bigSep_all8 _)) $$ Hq; icases Hq' with ⟨HQ0, HQ1, HQ2, HQ3, HQ4, HQ5, HQ6, HQ7⟩
    iapply (wp_copyX m ρ K _ _ (devX (k0_dev3_lt _) _ (k0_dev3_eq _)) 0 _ _ rfl rfl rfl) $$ Hc Ho HS0 HX0 HR0; iintro ⟨Ho, HA0⟩
    iapply (wp_stage m ρ _ 1 rfl rfl) $$ Hx HS1; iintro ⟨Hx, HS1⟩
    iapply (wp_copyX m ρ K _ _ (devX (k0_dev4_lt _) _ (k0_dev4_eq _)) 1 _ _ rfl rfl rfl) $$ Hc Ho HS1 HX1 HR1; iintro ⟨Ho, HA1⟩
    iapply (wp_stage m ρ _ 2 rfl rfl) $$ Hx HS2; iintro ⟨Hx, HS2⟩
    iapply (wp_copyX m ρ K _ _ (devX (k0_dev5_lt _) _ (k0_dev5_eq _)) 2 _ _ rfl rfl rfl) $$ Hc Ho HS2 HX2 HR2; iintro ⟨Ho, HA2⟩
    iapply (wp_stage m ρ _ 3 rfl rfl) $$ Hx HS3; iintro ⟨Hx, HS3⟩
    iapply (wp_copyX m ρ K _ _ (devX (k0_dev6_lt _) _ (k0_dev6_eq _)) 3 _ _ rfl rfl rfl) $$ Hc Ho HS3 HX3 HR3; iintro ⟨Ho, HA3⟩
    iapply (wp_stage m ρ _ 4 rfl rfl) $$ Hx HS4; iintro ⟨Hx, HS4⟩
    iapply (wp_copyX m ρ K _ _ (devX (k0_dev7_lt _) _ (k0_dev7_eq _)) 4 _ _ rfl rfl rfl) $$ Hc Ho HS4 HX4 HR4; iintro ⟨Ho, HA4⟩
    iapply (wp_stage m ρ _ 5 rfl rfl) $$ Hx HS5; iintro ⟨Hx, HS5⟩
    iapply (wp_copyX m ρ K _ _ (devX (k0_dev8_lt _) _ (k0_dev8_eq _)) 5 _ _ rfl rfl rfl) $$ Hc Ho HS5 HX5 HR5; iintro ⟨Ho, HA5⟩
    iapply (wp_stage m ρ _ 6 rfl rfl) $$ Hx HS6; iintro ⟨Hx, HS6⟩
    iapply (wp_copyX m ρ K _ _ (devX (k0_dev9_lt _) _ (k0_dev9_eq _)) 6 _ _ rfl rfl rfl) $$ Hc Ho HS6 HX6 HR6; iintro ⟨Ho, HA6⟩
    iapply (wp_stage m ρ _ 7 rfl rfl) $$ Hx HS7; iintro ⟨Hx, HS7⟩
    iapply (wp_copyX m ρ K _ _ (devX (k0_dev10_lt _) _ (k0_dev10_eq _)) 7 _ _ rfl rfl rfl) $$ Hc Ho HS7 HX7 HR7; iintro ⟨Ho, HA7⟩
    ihave Ho := (ow_paid _ _) $$ Ho
    iapply (wp_dmaR m ρ K _ 1 0 rfl _ (mayWait_recvX _ 0 _)) $$ Hc Ho HW0; iintro ⟨Ho, HW0⟩
    iapply (wp_acc m ρ _ 0 rfl rfl rfl) $$ Hx HW0 HO0; iintro ⟨Hx, HW0, HO0⟩
    iapply (wp_copyY m ρ K _ _ (devY (k0_dev11_lt _) _ (k0_dev11_eq _)) 0 _ (k0_off1_eq _) rfl rfl) $$ Hc Ho HO0 HY0 HQ0; iintro ⟨Ho, HB0⟩
    iapply (wp_dmaR m ρ K _ 1 1 rfl _ (mayWait_recvX _ 1 _)) $$ Hc Ho HW1; iintro ⟨Ho, HW1⟩
    iapply (wp_acc m ρ _ 1 rfl rfl rfl) $$ Hx HW1 HO1; iintro ⟨Hx, HW1, HO1⟩
    iapply (wp_copyY m ρ K _ _ (devY (k0_dev12_lt _) _ (k0_dev12_eq _)) 1 _ (k0_off2_eq _) rfl rfl) $$ Hc Ho HO1 HY1 HQ1; iintro ⟨Ho, HB1⟩
    iapply (wp_dmaR m ρ K _ 1 2 rfl _ (mayWait_recvX _ 2 _)) $$ Hc Ho HW2; iintro ⟨Ho, HW2⟩
    iapply (wp_acc m ρ _ 2 rfl rfl rfl) $$ Hx HW2 HO2; iintro ⟨Hx, HW2, HO2⟩
    iapply (wp_copyY m ρ K _ _ (devY (k0_dev13_lt _) _ (k0_dev13_eq _)) 2 _ (k0_off3_eq _) rfl rfl) $$ Hc Ho HO2 HY2 HQ2; iintro ⟨Ho, HB2⟩
    iapply (wp_dmaR m ρ K _ 1 3 rfl _ (mayWait_recvX _ 3 _)) $$ Hc Ho HW3; iintro ⟨Ho, HW3⟩
    iapply (wp_acc m ρ _ 3 rfl rfl rfl) $$ Hx HW3 HO3; iintro ⟨Hx, HW3, HO3⟩
    iapply (wp_copyY m ρ K _ _ (devY (k0_dev14_lt _) _ (k0_dev14_eq _)) 3 _ (k0_off4_eq _) rfl rfl) $$ Hc Ho HO3 HY3 HQ3; iintro ⟨Ho, HB3⟩
    iapply (wp_dmaR m ρ K _ 1 4 rfl _ (mayWait_recvX _ 4 _)) $$ Hc Ho HW4; iintro ⟨Ho, HW4⟩
    iapply (wp_acc m ρ _ 4 rfl rfl rfl) $$ Hx HW4 HO4; iintro ⟨Hx, HW4, HO4⟩
    iapply (wp_copyY m ρ K _ _ (devY (k0_dev15_lt _) _ (k0_dev15_eq _)) 4 _ (k0_off5_eq _) rfl rfl) $$ Hc Ho HO4 HY4 HQ4; iintro ⟨Ho, HB4⟩
    iapply (wp_dmaR m ρ K _ 1 5 rfl _ (mayWait_recvX _ 5 _)) $$ Hc Ho HW5; iintro ⟨Ho, HW5⟩
    iapply (wp_acc m ρ _ 5 rfl rfl rfl) $$ Hx HW5 HO5; iintro ⟨Hx, HW5, HO5⟩
    iapply (wp_copyY m ρ K _ _ (devY (k0_dev16_lt _) _ (k0_dev16_eq _)) 5 _ (k0_off6_eq _) rfl rfl) $$ Hc Ho HO5 HY5 HQ5; iintro ⟨Ho, HB5⟩
    iapply (wp_dmaR m ρ K _ 1 6 rfl _ (mayWait_recvX _ 6 _)) $$ Hc Ho HW6; iintro ⟨Ho, HW6⟩
    iapply (wp_acc m ρ _ 6 rfl rfl rfl) $$ Hx HW6 HO6; iintro ⟨Hx, HW6, HO6⟩
    iapply (wp_copyY m ρ K _ _ (devY (k0_dev17_lt _) _ (k0_dev17_eq _)) 6 _ (k0_off7_eq _) rfl rfl) $$ Hc Ho HO6 HY6 HQ6; iintro ⟨Ho, HB6⟩
    iapply (wp_dmaR m ρ K _ 1 7 rfl _ (mayWait_recvX _ 7 _)) $$ Hc Ho HW7; iintro ⟨Ho, HW7⟩
    iapply (wp_acc m ρ _ 7 rfl rfl rfl) $$ Hx HW7 HO7; iintro ⟨Hx, HW7, HO7⟩
    iapply (wp_copyY m ρ K _ _ (devY (k0_dev18_lt _) _ (k0_dev18_eq _)) 7 _ (k0_off8_eq _) rfl rfl) $$ Hc Ho HO7 HY7 HQ7; iintro ⟨Ho, HB7⟩
    iapply (wp_dmaO m ρ K _ 3 0 rfl _ (mayWait_nil _ 3 0)) $$ Hc Ho HV0; iintro ⟨Ho, HV0⟩
    iapply (wp_dmaO m ρ K _ 3 1 rfl _ (mayWait_nil _ 3 1)) $$ Hc Ho HV1; iintro ⟨Ho, HV1⟩
    iapply (wp_dmaO m ρ K _ 3 2 rfl _ (mayWait_nil _ 3 2)) $$ Hc Ho HV2; iintro ⟨Ho, HV2⟩
    iapply (wp_dmaO m ρ K _ 3 3 rfl _ (mayWait_nil _ 3 3)) $$ Hc Ho HV3; iintro ⟨Ho, HV3⟩
    iapply (wp_dmaO m ρ K _ 3 4 rfl _ (mayWait_nil _ 3 4)) $$ Hc Ho HV4; iintro ⟨Ho, HV4⟩
    iapply (wp_dmaO m ρ K _ 3 5 rfl _ (mayWait_nil _ 3 5)) $$ Hc Ho HV5; iintro ⟨Ho, HV5⟩
    iapply (wp_dmaO m ρ K _ 3 6 rfl _ (mayWait_nil _ 3 6)) $$ Hc Ho HV6; iintro ⟨Ho, HV6⟩
    iapply (wp_dmaO m ρ K _ 3 7 rfl _ (mayWait_nil _ 3 7)) $$ Hc Ho HV7; iintro ⟨Ho, HV7⟩
    iapply (wp_dmaS m ρ K _ 0 0 rfl _ (mayWait_nil _ 0 0)) $$ Hc Ho HA0; iintro ⟨Ho, HA0⟩
    iapply (wp_dmaO m ρ K _ 2 0 rfl _ (mayWait_nil _ 2 0)) $$ Hc Ho HB0; iintro ⟨Ho, HB0⟩
    iapply (wp_dmaS m ρ K _ 0 1 rfl _ (mayWait_nil _ 0 1)) $$ Hc Ho HA1; iintro ⟨Ho, HA1⟩
    iapply (wp_dmaO m ρ K _ 2 1 rfl _ (mayWait_nil _ 2 1)) $$ Hc Ho HB1; iintro ⟨Ho, HB1⟩
    iapply (wp_dmaS m ρ K _ 0 2 rfl _ (mayWait_nil _ 0 2)) $$ Hc Ho HA2; iintro ⟨Ho, HA2⟩
    iapply (wp_dmaO m ρ K _ 2 2 rfl _ (mayWait_nil _ 2 2)) $$ Hc Ho HB2; iintro ⟨Ho, HB2⟩
    iapply (wp_dmaS m ρ K _ 0 3 rfl _ (mayWait_nil _ 0 3)) $$ Hc Ho HA3; iintro ⟨Ho, HA3⟩
    iapply (wp_dmaO m ρ K _ 2 3 rfl _ (mayWait_nil _ 2 3)) $$ Hc Ho HB3; iintro ⟨Ho, HB3⟩
    iapply (wp_dmaS m ρ K _ 0 4 rfl _ (mayWait_nil _ 0 4)) $$ Hc Ho HA4; iintro ⟨Ho, HA4⟩
    iapply (wp_dmaO m ρ K _ 2 4 rfl _ (mayWait_nil _ 2 4)) $$ Hc Ho HB4; iintro ⟨Ho, HB4⟩
    iapply (wp_dmaS m ρ K _ 0 5 rfl _ (mayWait_nil _ 0 5)) $$ Hc Ho HA5; iintro ⟨Ho, HA5⟩
    iapply (wp_dmaO m ρ K _ 2 5 rfl _ (mayWait_nil _ 2 5)) $$ Hc Ho HB5; iintro ⟨Ho, HB5⟩
    iapply (wp_dmaS m ρ K _ 0 6 rfl _ (mayWait_nil _ 0 6)) $$ Hc Ho HA6; iintro ⟨Ho, HA6⟩
    iapply (wp_dmaO m ρ K _ 2 6 rfl _ (mayWait_nil _ 2 6)) $$ Hc Ho HB6; iintro ⟨Ho, HB6⟩
    iapply (wp_dmaS m ρ K _ 0 7 rfl _ (mayWait_nil _ 0 7)) $$ Hc Ho HA7; iintro ⟨Ho, HA7⟩
    iapply (wp_dmaO m ρ K _ 2 7 rfl _ (mayWait_nil _ 2 7)) $$ Hc Ho HB7; iintro ⟨Ho, HB7⟩
    rw [wp_ret]; imodintro
    iapply Hk
    isplitl [Hx]; · iexact Hx
    isplitl [Ho]; · iexact Ho
    isplitl [HzB]; · iexact HzB
    isplitl [HA0 HA1 HA2 HA3 HA4 HA5 HA6 HA7]
    · iapply (join8 _) $$ HA0 HA1 HA2 HA3 HA4 HA5 HA6 HA7
    isplitl [HW0 HW1 HW2 HW3 HW4 HW5 HW6 HW7]
    · iapply (join8 _) $$ HW0 HW1 HW2 HW3 HW4 HW5 HW6 HW7
    isplitl [HB0 HB1 HB2 HB3 HB4 HB5 HB6 HB7]
    · iapply (join8 _) $$ HB0 HB1 HB2 HB3 HB4 HB5 HB6 HB7
    iapply (join8 _) $$ HV0 HV1 HV2 HV3 HV4 HV5 HV6 HV7

end Cert.KernelIdealProof

end
-- ==== Proof.IdealLaunch.lean ====
/-
The buffers cut in blocks and joined again, what the launch hands each device's body and takes back, and the body's obligation.
-/
module

public import proofs.«01_k».proof.Proof.IdealBody

@[expose] public section

set_option maxRecDepth 16384

noncomputable section

namespace Cert.KernelIdealProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## Cutting and joining buffers -/

theorem mem_rectR {k : Fin 8} {i : S1024x256.Idx} : i ∈ (rectR k).set ↔ 128 * k.val ≤ (i 0).val ∧ (i 0).val < 128 * k.val + 128 := by
  rw [Rect.mem_set_unit]
  constructor
  · intro h; exact h 0
  · intro h a
    fin_cases a
    · exact h
    · have h1 : (i 1).val < 256 := (i 1).isLt
      show 0 ≤ (i 1).val ∧ (i 1).val < 0 + 256
      omega
theorem rectR_disj (b b' : Fin 8) (h : b ≠ b') : Disjoint (rectR b).set (rectR b').set := by
  rw [Finset.disjoint_left]
  intro i hi hi'
  rw [mem_rectR] at hi hi'
  exact h (Fin.ext (by omega))
theorem rectR_cover : Finset.univ.biUnion (fun k => (rectR k).set) = (Finset.univ : Finset S1024x256.Idx) := by
  ext i
  have h0 : (i 0).val < 1024 := (i 0).isLt
  simp only [Finset.mem_biUnion, Finset.mem_univ, true_and, iff_true]
  exact ⟨⟨(i 0).val / 128, by omega⟩, by rw [mem_rectR]; dsimp only; omega⟩

theorem mem_rectO {d : Dev nD} {k : Fin 8} {i : S1024x512.Idx} :
    i ∈ (rectO d k).set ↔ (128 * k.val ≤ (i 0).val ∧ (i 0).val < 128 * k.val + 128)
      ∧ (256 * (d.val % 2) ≤ (i 1).val ∧ (i 1).val < 256 * (d.val % 2) + 256) := by
  rw [Rect.mem_set_unit]
  constructor
  · intro h; exact ⟨h 0, h 1⟩
  · intro h a
    fin_cases a
    · exact h.1
    · exact h.2
/-- The two halves of `c`'s result: its own and that of `yp c`. -/
abbrev hv (c : Dev nD) (d : Fin 2) : Dev nD := if d = 0 then c else yp c
theorem hv_mod (c : Dev nD) (d : Fin 2) : (hv c d).val % 2 = (c.val % 2 + d.val) % 2 := by revert c d; decide
abbrev cutO (c : Dev nD) (b : Fin 2 × Fin 8) : Finset S1024x512.Idx := (rectO (hv c b.1) b.2).set
theorem rectO_disj (c : Dev nD) (b b' : Fin 2 × Fin 8) (h : b ≠ b') : Disjoint (cutO c b) (cutO c b') := by
  rw [Finset.disjoint_left]
  intro i hi hi'
  rw [mem_rectO] at hi hi'
  rw [hv_mod] at hi hi'
  obtain ⟨d, k⟩ := b; obtain ⟨d', k'⟩ := b'
  have hm := mod_lt c
  dsimp only at hi hi'
  exact h (Prod.ext (Fin.ext (by dsimp only; omega)) (Fin.ext (by dsimp only; omega)))
theorem rectO_cover (c : Dev nD) : Finset.univ.biUnion (cutO c) = (Finset.univ : Finset S1024x512.Idx) := by
  ext i
  have h0 : (i 0).val < 1024 := (i 0).isLt
  have h1 : (i 1).val < 512 := (i 1).isLt
  have hm := mod_lt c
  simp only [Finset.mem_biUnion, Finset.mem_univ, true_and, iff_true]
  refine ⟨(⟨((i 1).val / 256 + c.val % 2) % 2, Nat.mod_lt _ (by decide)⟩, ⟨(i 0).val / 128, by omega⟩), ?_⟩
  rw [mem_rectO, hv_mod]
  dsimp only
  omega

theorem bigSep_two (Φ : Fin 2 → sProp 𝕄) : bigSep Finset.univ Φ = iprop(Φ 0 ∗ Φ 1) := bigSep_univ_eq_bigSepL [0, 1] (by decide) (by decide) Φ

/-- The send buffer by blocks; -/
theorem cutS (c : Dev nD) (f : Buf (Elt F) ((c : Thread nD τ).loc cc0_scratch0)) :
    ((((c : Thread nD τ).loc cc0_scratch0) ↦{fullShare} f : sProp 𝕄)) = bigSep Finset.univ fun k => sP (F := F) c k f :=
  Ring.pointsTo_blocks (ℓ := (c : Thread nD τ).loc cc0_scratch0) (fun k : Fin 8 => (rectR k).set) rectR_disj rectR_cover f
/-- the receive buffer; -/
theorem cutR (c : Dev nD) (f : Buf (Elt F) ((c : Thread nD τ).loc cc0_scratch1)) :
    ((((c : Thread nD τ).loc cc0_scratch1) ↦{fullShare} f : sProp 𝕄)) = bigSep Finset.univ fun k => rP (F := F) c k f :=
  Ring.pointsTo_blocks (ℓ := (c : Thread nD τ).loc cc0_scratch1) (fun k : Fin 8 => (rectR k).set) rectR_disj rectR_cover f
/-- the result, its own half and the other. -/
theorem cutOut (c : Dev nD) (f : Buf (Elt F) ((c : Thread nD τ).loc cc0_stg1_0)) :
    ((((c : Thread nD τ).loc cc0_stg1_0) ↦{fullShare} f : sProp 𝕄))
      = iprop((bigSep Finset.univ fun k => oP (F := F) c c k f) ∗ bigSep Finset.univ fun k => oP (F := F) c (yp c) k f) := by
  refine (Ring.pointsTo_blocks (ℓ := (c : Thread nD τ).loc cc0_stg1_0) (cutO c) (rectO_disj c) (rectO_cover c) f).trans ?_
  rw [bigSep_univ_prod, bigSep_two]
  rfl

/-- Blocks at known contents are blocks at some. -/
theorem some_s (c : Dev nD) (f : Buf (Elt F) ((c : Thread nD τ).loc cc0_scratch0)) :
    (bigSep Finset.univ fun k => sP (F := F) c k f) ⊢ (bigSep Finset.univ fun k => s0 (F := F) c k) :=
  bigSep_mono fun k _ => show _ ⊢ s0 (F := F) c k from by unfold s0; iintro H; iexists f; iexact H
theorem some_r (c : Dev nD) (f : Buf (Elt F) ((c : Thread nD τ).loc cc0_scratch1)) :
    (bigSep Finset.univ fun k => rP (F := F) c k f) ⊢ (bigSep Finset.univ fun k => r0 (F := F) c k) :=
  bigSep_mono fun k _ => show _ ⊢ r0 (F := F) c k from by unfold r0; iintro H; iexists f; iexact H
theorem some_o (c d : Dev nD) (f : Buf (Elt F) ((c : Thread nD τ).loc cc0_stg1_0)) :
    (bigSep Finset.univ fun k => oP (F := F) c d k f) ⊢ (bigSep Finset.univ fun k => o0 (F := F) c d k) :=
  bigSep_mono fun k _ => show _ ⊢ o0 (F := F) c d k from by unfold o0; iintro H; iexists f; iexact H

theorem splitS (c : Dev nD) :
    (iprop(∃ f, ((c : Thread nD τ).loc cc0_scratch0) ↦{fullShare} f) : sProp 𝕄) ⊢ bigSep Finset.univ fun k => s0 (F := F) c k := by
  iintro ⟨%f, H⟩
  ihave H := (Entails.of_eq (cutS c f)) $$ H
  iapply (some_s c f); iexact H
theorem splitR (c : Dev nD) :
    (iprop(∃ f, ((c : Thread nD τ).loc cc0_scratch1) ↦{fullShare} f) : sProp 𝕄) ⊢ bigSep Finset.univ fun k => r0 (F := F) c k := by
  iintro ⟨%f, H⟩
  ihave H := (Entails.of_eq (cutR c f)) $$ H
  iapply (some_r c f); iexact H
/-! ## The proof data of the launch -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The places and the tokens of duties with which device `c`'s body starts. -/
def linear (c : Dev nD) : sProp 𝕄 :=
  iprop((dutyTok ER (barCell (xp c)) 0 false ∗ dutyTok ER (barCell (yp c)) 0 true ∗ atPos ER (barCell c) 0 ∅ 0)
    ∗ (bigSep Finset.univ fun k => tX (F := F) c k) ∗ (bigSep Finset.univ fun k => tY (F := F) c k)
    ∗ (bigSep Finset.univ fun k => atPos ER (dCell c 1 k) 0 ∅ 0) ∗ (bigSep Finset.univ fun k => atPos ER (dCell c 3 k) 0 ∅ 0))

/-- The credits it starts with: of its barrier cell, and of the cells that its neighbours' copies raise. -/
def credIn (c : Dev nD) : sProp 𝕄 :=
  iprop(cred (tallyAt (barCell c) () 2) ∗ (bigSep Finset.univ fun k : Fin 8 => cred (tallyAt (dCell c 1 k) () N))
    ∗ (bigSep Finset.univ fun k : Fin 8 => cred (tallyAt (dCell c 3 k) () N)))

def start (c : Dev nD) : sProp 𝕄 :=
  iprop((∃ K, records m ρ K ∗ linear (F := F) c) ∗ credIn (F := F) c ∗ levAts L lv)

/-- Before the point: that, and the send and receive buffers; -/
def Φ₀ (c : Dev nD) : sProp 𝕄 :=
  iprop(start m ρ c ∗ (∃ f, ((c : Thread nD τ).loc cc0_scratch0) ↦{fullShare} f) ∗ (∃ f, ((c : Thread nD τ).loc cc0_scratch1) ↦{fullShare} f))
/-- after it: those buffers, and every cell at zero, closed. -/
def Φ₁ (c : Dev nD) : sProp 𝕄 :=
  iprop(((∃ f, ((c : Thread nD τ).loc cc0_scratch0) ↦{fullShare} f) ∗ (∃ f, ((c : Thread nD τ).loc cc0_scratch1) ↦{fullShare} f))
    ∗ (bigSep Finset.univ fun ak : Fin 4 × Fin 8 => semVal (dCell c ak.1 ak.2) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outC m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outC m ρ c))

/-- A cell with its credit and its place is one to be waited for. -/
theorem wt_intro (c : Dev nD) (a : Fin 4) :
    (bigSep Finset.univ fun k : Fin 8 => (cred (tallyAt (dCell c a k) () N) : sProp 𝕄))
      ⊢ iprop((bigSep Finset.univ fun k : Fin 8 => atPos ER (dCell c a k) 0 ∅ 0) -∗ bigSep Finset.univ fun k => wt (F := F) c a k) := by
  unfold wt; rw [bigSep_sep']
  iintro H1 H2
  isplitl [H1] <;> iassumption

/-- What a finished cell leaves, the payloads apart from the counters. -/
theorem dn_elim (c : Dev nD) (a : Fin 4) :
    (bigSep Finset.univ fun k : Fin 8 => dn m ρ c a k)
      ⊢ iprop((bigSep Finset.univ fun k : Fin 8 => dmaPay m ρ c a k) ∗ bigSep Finset.univ fun k : Fin 8 => semVal (dCell c a k) 0) := by
  unfold dn; rw [bigSep_sep']

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ

/-- From what the launch hands over to what the executed body starts from; -/
theorem pre_core (K : Dev nD × CI → ℕ) (c : Dev nD) :
    iprop(linear (F := F) c ∗ credIn (F := F) c
        ∗ ((∃ f, ((c : Thread nD τ).loc cc0_scratch0) ↦{fullShare} f) ∗ (∃ f, ((c : Thread nD τ).loc cc0_scratch1) ↦{fullShare} f))
        ∗ (dats m ρ 0 c).owesAt () t₀.castSucc
        ∗ (∃ d, stg c cc0_stg0_0 ((dats m ρ 0 c).before (0 : Fin 2) t₀ d))
        ∗ (∃ d, stg c cc0_stg1_0 ((dats m ρ 0 c).before (1 : Fin 2) t₀ d))) ⊢ coreA m ρ c := by
  unfold linear credIn coreA
  iintro ⟨⟨⟨HtX, HtY, HaB⟩, HX, HY, Ha1, Ha3⟩, ⟨HcB, Hc1, Hc3⟩, ⟨HS, HR⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  ihave Hout := (Entails.of_eq (cutOut c g1)) $$ Hout
  icases Hout with ⟨Ho1, Ho2⟩
  isplitl [Hx]; · unfold xPts; iexact Hx
  isplitl [HO]; · unfold ow; iexists W; iexact HO
  isplitl [HtX HtY HaB HcB]
  · isplitl [HtX]; · iexact HtX
    isplitl [HtY]; · iexact HtY
    isplitl [HcB] <;> iassumption
  isplitl [HR]; · iapply (splitR (F := F) c); iexact HR
  isplitl [Ho2]; · iapply (some_o c (yp c) g1); iexact Ho2
  isplitl [HS]; · iapply (splitS (F := F) c); iexact HS
  isplitl [Ho1]; · iapply (some_o c c g1); iexact Ho1
  isplitl [HX]; · iexact HX
  isplitl [HY]; · iexact HY
  isplitl [Hc1 Ha1]; · iapply (wt_intro (F := F) c 1) $$ Hc1 Ha1
  iapply (wt_intro (F := F) c 3) $$ Hc3 Ha3

/-- and from what it ends with to what the launch takes back. -/
theorem core_post (c : Dev nD) : coreB m ρ c ⊢ bodyPost m ρ c := by
  unfold coreB bodyPost Φ₁
  iintro ⟨Hx, Ho, HB, H0, H1, H2, H3⟩
  ihave H0 := (dn_elim m ρ c 0) $$ H0; icases H0 with ⟨HS, Hz0⟩
  ihave H1 := (dn_elim m ρ c 1) $$ H1; icases H1 with ⟨HR, Hz1⟩
  ihave H2 := (dn_elim m ρ c 2) $$ H2; icases H2 with ⟨HOo, Hz2⟩
  ihave H3 := (dn_elim m ρ c 3) $$ H3; icases H3 with ⟨HOy, Hz3⟩
  isplitl [HS HR Hz0 Hz1 Hz2 Hz3 HB]
  · isplitl [HS HR]
    · isplitl [HS]
      · iexists (sendC m ρ c); iapply (Entails.of_eq (cutS c (sendC m ρ c)).symm); iexact HS
      · iexists (recvC m ρ c); iapply (Entails.of_eq (cutR c (recvC m ρ c)).symm); iexact HR
    isplitl [Hz0 Hz1 Hz2 Hz3]
    · iapply (Entails.of_eq ((bigSep_univ_prod (fun ak : Fin 4 × Fin 8 => (semVal (dCell c ak.1 ak.2) 0 : sProp 𝕄))).trans (bigSep_four _)).symm)
      isplitl [Hz0]; · iexact Hz0
      isplitl [Hz1]; · iexact Hz1
      isplitl [Hz2] <;> iassumption
    iexact HB
  isplitl [Ho]
  · unfold Dat.owesAt Pipeline.owesWithin ow
    icases Ho with ⟨%W, HO⟩
    iexists W
    isplitr; · ipureintro; exact fun _ _ => Or.inl trivial
    iexact HO
  isplitl [Hx]
  · iexists _; isplitr; · (ipureintro; rfl)
    unfold xPts; iexact Hx
  iexists (outC m ρ c); isplitr; · (ipureintro; rfl)
  iapply (Entails.of_eq (cutOut c (outC m ρ c)).symm)
  isplitl [HOo]; · iexact HOo
  iexact HOy

/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m ρ c)
  unfold bodyPre Φ₀ start
  iintro ⟨⟨⟨⟨%K, #HK, Hl⟩, Hc, #Hlev⟩, Hscr⟩, Ho, Hx, Hout⟩
  iapply (core m ρ K c ⟨c.val / 2, div_lt c⟩ ⟨c.val % 2, mod_lt c⟩ (Fin.ext (by dsimp only; omega)) fun _ => bodyPost m ρ c) $$ [] [Hl Hc Hscr Ho Hx Hout] []
  · unfold ctx
    isplitr; · iexact HK
    iexact Hlev
  · iapply (pre_core m ρ K c)
    isplitl [Hl]; · iexact Hl
    isplitl [Hc]; · iexact Hc
    isplitl [Hscr]; · iexact Hscr
    isplitl [Ho]; · iexact Ho
    isplitl [Hx]; · iexact Hx
    iexact Hout
  · iintro H; iapply (core_post m ρ c); iexact H

end Cert.KernelIdealProof

end
-- ==== Proof.IdealRun.lean ====
/-
The protocol's ghost state at launch, dealt to the devices; the credits the launch mints; the run of the whole program.
-/
module

public import proofs.«01_k».proof.Proof.IdealLaunch
public import Idealize.ShloMosaic.Lib.Pipeline.CollectiveSegs

@[expose] public section

set_option maxRecDepth 16384

noncomputable section

namespace Cert.KernelIdealProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CI → ℕ)

/-! ## The cells and tokens minted at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : CI → SemLoc sig) := by
  rintro (u | ⟨a, k⟩) (u' | ⟨a', k'⟩) h
  · rfl
  · exact absurd h (fun h' => by cases h')
  · exact absurd h (fun h' => by cases h')
  · have h1 : dq a k = dq a' k' := by injection h
    obtain ⟨h2, h3⟩ := dq_inj h1
    rw [h2, h3]
theorem kcell_injective : Function.Injective (kcell : Dev nD × CI → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def ringCells : Finset (GSem nD τ sig) := Finset.univ.map ⟨kcell, kcell_injective⟩

/-- A duty's token: of the barrier cell the two duties, of each copy's cell the one. -/
abbrev TI : Type := Bool ⊕ (Fin 4 × Fin 8)
abbrev tokCell : TI → CI × Bool := Sum.elim (fun b => (.inl (), b)) (fun ak => (.inr ak, false))
theorem tokCell_injective : Function.Injective tokCell := by
  rintro (b | ak) (b' | ak') h
  · exact congrArg Sum.inl (congrArg Prod.snd h)
  · exact absurd (congrArg Prod.fst h) (fun h' => by cases h')
  · exact absurd (congrArg Prod.fst h) (fun h' => by cases h')
  · have h1 : (Sum.inr ak : CI) = .inr ak' := congrArg Prod.fst h
    injection h1 with h2
    rw [h2]
abbrev tokOf (cj : Dev nD × TI) : GSem nD τ sig × ℕ × Bool := (kcell (cj.1, (tokCell cj.2).1), 0, (tokCell cj.2).2)
theorem tokOf_injective : Function.Injective (tokOf : Dev nD × TI → GSem nD τ sig × ℕ × Bool) := by
  rintro ⟨c, j⟩ ⟨c', j'⟩ h
  have h1 : (c, (tokCell j).1) = (c', (tokCell j').1) := kcell_injective (congrArg Prod.fst h)
  have h2 : (tokCell j).2 = (tokCell j').2 := congrArg (fun x : GSem nD τ sig × ℕ × Bool => x.2.2) h
  have h3 : c = c' := congrArg Prod.fst h1
  have h4 : (tokCell j).1 = (tokCell j').1 := congrArg Prod.snd h1
  rw [h3, tokCell_injective (Prod.ext h4 h2)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of the duties of device `c`'s own cells. -/
def toks (c : Dev nD) : sProp 𝕄 :=
  iprop((dutyTok ER (barCell c) 0 false ∗ dutyTok ER (barCell c) 0 true)
    ∗ (bigSep Finset.univ fun k : Fin 8 => dutyTok ER (dCell c 0 k) 0 false) ∗ (bigSep Finset.univ fun k : Fin 8 => dutyTok ER (dCell c 1 k) 0 false)
    ∗ (bigSep Finset.univ fun k : Fin 8 => dutyTok ER (dCell c 2 k) 0 false) ∗ (bigSep Finset.univ fun k : Fin 8 => dutyTok ER (dCell c 3 k) 0 false))

/-- What the launch deals device `c`, -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks (F := F) c)

/-- and what the step over all devices makes of it. -/
def G' (c : Dev nD) : sProp 𝕄 := iprop(∃ K, records m ρ K ∗ linear (F := F) c)

theorem bigSep_bool (Φ : Bool → sProp 𝕄) : bigSep Finset.univ Φ = iprop(Φ false ∗ Φ true) := bigSep_univ_eq_bigSepL [false, true] (by decide) (by decide) Φ
theorem bigSep_unit (Φ : Unit → sProp 𝕄) : bigSep Finset.univ Φ = Φ () := by
  rw [show (Finset.univ : Finset Unit) = {()} from rfl, bigSep_singleton]

theorem bigSep_CI' (Φ : CI → sProp 𝕄) : bigSep Finset.univ Φ = iprop(Φ (.inl ()) ∗ bigSep Finset.univ fun ak => Φ (.inr ak)) := by
  rw [BI.bigSep_univ_sum, bigSep_unit]; rfl
/-- The cells of a device: the barrier's, then the copies' by their four arrays. -/
theorem bigSep_CI (Φ : CI → sProp 𝕄) : bigSep Finset.univ Φ
    = iprop(Φ (.inl ()) ∗ (bigSep Finset.univ fun k => Φ (.inr (0, k))) ∗ (bigSep Finset.univ fun k => Φ (.inr (1, k)))
        ∗ (bigSep Finset.univ fun k => Φ (.inr (2, k))) ∗ (bigSep Finset.univ fun k => Φ (.inr (3, k)))) := by
  rw [bigSep_CI', bigSep_univ_prod, bigSep_four]

theorem toks_eq (c : Dev nD) :
    bigSep Finset.univ (fun j : TI => (dutyTok ER (tokOf (c, j)).1 (tokOf (c, j)).2.1 (tokOf (c, j)).2.2 : sProp 𝕄)) = toks (F := F) c := by
  rw [BI.bigSep_univ_sum, bigSep_bool, bigSep_univ_prod, bigSep_four]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    exact bigSep_congr fun c _ => toks_eq (F := F) c
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_CI']
  iintro ⟨HO, HB⟩
  isplitl [HB]; · iexact HB
  unfold Pipeline.ownSems0
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens each device pays with: across the first axis the barrier's duty `false` and the first copies' receive duties, across
    the second the barrier's `true` and the second copies', and its own send duties. -/
def payToks (c : Dev nD) : sProp 𝕄 :=
  iprop((dutyTok ER (barCell (xp c)) 0 false ∗ dutyTok ER (barCell (yp c)) 0 true)
    ∗ (bigSep Finset.univ fun k : Fin 8 => dutyTok ER (dCell c 0 k) 0 false) ∗ (bigSep Finset.univ fun k : Fin 8 => dutyTok ER (dCell (xp c) 1 k) 0 false)
    ∗ (bigSep Finset.univ fun k : Fin 8 => dutyTok ER (dCell c 2 k) 0 false) ∗ (bigSep Finset.univ fun k : Fin 8 => dutyTok ER (dCell (yp c) 3 k) 0 false))

/-- Dealing the tokens to the devices that pay with them. -/
theorem toks_around : (bigSep Finset.univ fun c : Dev nD => (toks (F := F) c : sProp 𝕄)) ⊢ bigSep Finset.univ fun c : Dev nD => payToks (F := F) c := by
  unfold toks payToks
  simp only [bigSep_sep']
  rw [bigSep_univ_equiv swapX (fun c : Dev nD => (dutyTok ER (barCell c) 0 false : sProp 𝕄)),
    bigSep_univ_equiv swapY (fun c : Dev nD => (dutyTok ER (barCell c) 0 true : sProp 𝕄)),
    bigSep_univ_equiv swapX (fun c : Dev nD => bigSep Finset.univ fun k : Fin 8 => (dutyTok ER (dCell c 1 k) 0 false : sProp 𝕄)),
    bigSep_univ_equiv swapY (fun c : Dev nD => bigSep Finset.univ fun k : Fin 8 => (dutyTok ER (dCell c 3 k) 0 false : sProp 𝕄))]
  exact BI.Entails.refl _

/-- A device's places and the tokens it pays with are what its body starts from. -/
theorem linear_intro (c : Dev nD) :
    iprop((bigSep Finset.univ fun k : CI => (atPos ER (kcell (c, k)) 0 ∅ 0 : sProp 𝕄)) ∗ payToks (F := F) c) ⊢ linear (F := F) c := by
  rw [bigSep_CI]
  unfold payToks linear tX tY
  simp only [bigSep_sep']
  iintro ⟨⟨HaB, Ha0, Ha1, Ha2, Ha3⟩, ⟨HtX, HtY⟩, H0, H1, H2, H3⟩
  isplitl [HaB HtX HtY]
  · isplitl [HtX]; · iexact HtX
    isplitl [HtY]; · iexact HtY
    iexact HaB
  isplitl [Ha0 H0 H1]
  · isplitl [H0]; · iexact H0
    isplitl [H1]; · iexact H1
    iexact Ha0
  isplitl [Ha2 H2 H3]
  · isplitl [H2]; · iexact H2
    isplitl [H3]; · iexact H3
    iexact Ha2
  isplitl [Ha1]; · iexact Ha1
  iexact Ha3

theorem ghost_intro (K : Dev nD × CI → ℕ) (c : Dev nD) : iprop(records m ρ K ∗ linear (F := F) c) ⊢ G' m ρ c := by
  unfold G'
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  rw [bigSep_sep', bigSep_sep', ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) (payToks (F := F))).symm).trans
      (bigSep_mono fun c _ => linear_intro (F := F) c))
    isplitl [Hat]; · iexact Hat
    iexact Htk

/-- The step over all devices at once: every semaphore of theirs becomes a cell of the protocol. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits minted at launch -/

theorem bar_eq_iff {a b : Dev nD} : Iff (barCell a = barCell b) (a = b) :=
  ⟨fun h => Fin.ext (congrArg (fun g : GSem nD τ sig => g.1.1.val) h), fun h => h ▸ rfl⟩
theorem dCell_eq_iff {c c' : Dev nD} {a a' : Fin 4} {k k' : Fin 8} : Iff (dCell c a k = dCell c' a' k') (c = c' ∧ a = a' ∧ k = k') := by
  constructor
  · intro h
    have h1 : ((c, .inr (a, k)) : Dev nD × CI) = (c', .inr (a', k')) := kcell_injective h
    injection h1 with h2 h3
    injection h3 with h4
    injection h4 with h5 h6
    exact ⟨h2, h5, h6⟩
  · rintro ⟨rfl, rfl, rfl⟩; rfl
theorem bar_ne_dma {c c' : Dev nD} {a : Fin 4} {k : Fin 8} : barCell c ≠ dCell c' a k := fun h => by cases congrArg Prod.snd h
theorem xp_eq_iff {c d : Dev nD} : Iff (c = xp d) (d = xp c) := ⟨fun h => by rw [h, xp_xp], fun h => by rw [h, xp_xp]⟩
theorem yp_eq_iff {c d : Dev nD} : Iff (c = yp d) (d = yp c) := ⟨fun h => by rw [h, yp_yp], fun h => by rw [h, yp_yp]⟩

theorem oweX_of_ne {d : Dev nD} {l : List (Fin 8)} {g : GSem nD τ sig} {u : Unit} (h : ∀ k, g ≠ dCell (xp d) 1 k) : oweX d l g u = 0 := by
  rcases Nat.eq_zero_or_pos (oweX d l g u) with h0 | h0
  · exact h0
  · obtain ⟨k, hk⟩ := oweX_pos h0; exact absurd hk (h k)
theorem oweY_of_ne {d : Dev nD} {l : List (Fin 8)} {g : GSem nD τ sig} {u : Unit} (h : ∀ k, g ≠ dCell (yp d) 3 k) : oweY d l g u = 0 := by
  rcases Nat.eq_zero_or_pos (oweY d l g u) with h0 | h0
  · exact h0
  · obtain ⟨k, hk⟩ := oweY_pos h0; exact absurd hk (h k)

theorem oweX_count (d : Dev nD) (l : List (Fin 8)) (k : Fin 8) : oweX d l (dCell (xp d) 1 k) () = l.count k * N := by
  induction l with
  | nil => rw [List.count_nil, Nat.zero_mul]; rfl
  | cons j l ih =>
    rw [oweX_cons, Pi.add_apply, Finsupp.add_apply, ih, tallyAt_apply, List.count_cons]
    by_cases h : j = k
    · subst h; rw [if_pos ⟨rfl, rfl⟩, beq_self_eq_true, if_pos rfl, Nat.add_mul, Nat.one_mul]
    · rw [if_neg (fun h' => h (dCell_eq_iff.mp h'.1).2.2.symm), if_neg (by simpa using h), Nat.add_zero, Nat.add_zero]
theorem oweY_count (d : Dev nD) (l : List (Fin 8)) (k : Fin 8) : oweY d l (dCell (yp d) 3 k) () = l.count k * N := by
  induction l with
  | nil => rw [List.count_nil, Nat.zero_mul]; rfl
  | cons j l ih =>
    rw [oweY_cons, Pi.add_apply, Finsupp.add_apply, ih, tallyAt_apply, List.count_cons]
    by_cases h : j = k
    · subst h; rw [if_pos ⟨rfl, rfl⟩, beq_self_eq_true, if_pos rfl, Nat.add_mul, Nat.one_mul]
    · rw [if_neg (fun h' => h (dCell_eq_iff.mp h'.1).2.2.symm), if_neg (by simpa using h), Nat.add_zero, Nat.add_zero]
theorem count_all8 (k : Fin 8) : all8.count k = 1 := by revert k; decide

theorem O₀_apply (d : Dev nD) (g : GSem nD τ sig) :
    O₀ d g () = oweX d all8 g () + oweY d all8 g () + (if g = barCell (yp d) then 1 else 0) + (if g = barCell (xp d) then 1 else 0) := by
  unfold O₀ O₁ O₂
  rw [Pi.add_apply, Finsupp.add_apply, Pi.add_apply, Finsupp.add_apply, Pi.add_apply, Finsupp.add_apply, tallyAt_apply, tallyAt_apply]
  simp only [and_true]

/-- What device `d` owes `c`'s barrier cell: a unit across each axis. -/
theorem owed_bar (d c : Dev nD) : O₀ d (barCell c) () = (if d = yp c then 1 else 0) + (if d = xp c then 1 else 0) := by
  rw [O₀_apply, oweX_of_ne (fun k => bar_ne_dma), oweY_of_ne (fun k => bar_ne_dma), Nat.add_zero, Nat.zero_add]
  simp only [bar_eq_iff, xp_eq_iff (c := c), yp_eq_iff (c := c)]
/-- What it owes `c`'s cells of the first copies, -/
theorem owed_recvX (d c : Dev nD) (k : Fin 8) : O₀ d (dCell c 1 k) () = if d = xp c then N else 0 := by
  rw [O₀_apply, oweY_of_ne (fun k' h => absurd (dCell_eq_iff.mp h).2.1 (by decide)), if_neg (fun h => bar_ne_dma h.symm), if_neg (fun h => bar_ne_dma h.symm),
    Nat.add_zero]
  by_cases h : d = xp c
  · subst h
    rw [if_pos rfl]
    have := oweX_count (xp c) all8 k
    rw [xp_xp, count_all8, Nat.one_mul] at this
    exact this
  · rw [if_neg h, oweX_of_ne (fun k' h' => h (xp_eq_iff.mp (dCell_eq_iff.mp h').1))]
/-- of the second copies. -/
theorem owed_recvY (d c : Dev nD) (k : Fin 8) : O₀ d (dCell c 3 k) () = if d = yp c then N else 0 := by
  rw [O₀_apply, oweX_of_ne (fun k' h => absurd (dCell_eq_iff.mp h).2.1 (by decide)), if_neg (fun h => bar_ne_dma h.symm), if_neg (fun h => bar_ne_dma h.symm),
    Nat.zero_add, Nat.add_zero]
  by_cases h : d = yp c
  · subst h
    rw [if_pos rfl]
    have := oweY_count (yp c) all8 k
    rw [yp_yp, count_all8, Nat.one_mul] at this
    exact this
  · rw [if_neg h, oweY_of_ne (fun k' h' => h (yp_eq_iff.mp (dCell_eq_iff.mp h').1))]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yp c) fun _ => 1, Finset.sum_ite_eq' Finset.univ (xp c) fun _ => 1, if_pos (Finset.mem_univ _), if_pos (Finset.mem_univ _)]
theorem launch_dma (c e : Dev nD) (a : Fin 4) (k : Fin 8) (h : ∀ d, O₀ d (dCell c a k) () = if d = e then N else 0) :
    tallyOn (dCell c a k) (launchCredit (Pipeline.owing O₀) 0 (dCell c a k)) = (tallyAt (dCell c a k) () N : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => N,
    if_pos (Finset.mem_univ _)]

/-- The credit minted for one cell. -/
abbrev minted (c : Dev nD) (sm : SemLoc sig) : sProp 𝕄 :=
  cred (tallyOn ((c.tc : Thread nD τ), sm) (launchCredit (Pipeline.owing O₀) 0 ((c.tc : Thread nD τ), sm)))
/-- Of the credits minted for all semaphores those of the protocol's cells; -/
theorem creds_cells (c : Dev nD) : (Pipeline.launchCred O₀ c : sProp 𝕄) ⊢ bigSep Finset.univ fun k : CI => minted (F := F) c (csem k) := by
  unfold Pipeline.launchCred
  have h := BI.bigSep_subset (Finset.subset_univ (Finset.univ.map (⟨csem, csem_injective⟩ : CI ↪ SemLoc sig))) (Φ := minted (F := F) c)
  rw [bigSep_map] at h
  exact h
theorem minted_bar (c : Dev nD) : minted (F := F) c (csem (.inl ())) = cred (tallyAt (barCell c) () 2) := congrArg cred (launch_bar c)
theorem minted_dma (c e : Dev nD) (a : Fin 4) (h : ∀ k d, O₀ d (dCell c a k) () = if d = e then N else 0) :
    (bigSep Finset.univ fun k : Fin 8 => minted (F := F) c (csem (.inr (a, k)))) = bigSep Finset.univ fun k : Fin 8 => cred (tallyAt (dCell c a k) () N) :=
  bigSep_congr fun k _ => congrArg cred (launch_dma c e a k (h k))
/-- each device's are these. -/
theorem creds (c : Dev nD) : (Pipeline.launchCred O₀ c : sProp 𝕄) ⊢ credIn (F := F) c := by
  unfold credIn
  iintro H
  ihave H := (creds_cells (F := F) c) $$ H
  ihave H := (Entails.of_eq (bigSep_CI _)) $$ H
  icases H with ⟨HB, -, H1, -, H3⟩
  isplitl [HB]; · iapply (Entails.of_eq (minted_bar (F := F) c)); iexact HB
  isplitl [H1]
  · iapply (Entails.of_eq (minted_dma (F := F) c (xp c) 1 fun k d => owed_recvX d c k)); iexact H1
  · iapply (Entails.of_eq (minted_dma (F := F) c (yp c) 3 fun k d => owed_recvY d c k)); iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ Pipeline.ownSems0
  iintro ⟨Hr, Hz, HB⟩
  isplitl [HB]; · iexact HB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters, every weakly fair execution of the program on the four devices
    terminates; every final state has each device's result array at the computed contents, its argument unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.IdealValue.lean ====
/-
The result of the kernel and of the reference over the extended reals: both are the sum of the argument's two blocks.
-/
module

public import proofs.«01_k».proof.Proof.IdealRun
public import proofs.«01_k».proof.Proof.Gen.KernelIdeal.Points
public import proofs.«01_k».proof.Proof.Gen.ReferenceIdeal.Run
public import Idealize.ShloMosaic.Lib.Layout
public import Idealize.ShloMosaic.PureOps.Ideal
public import Idealize.ShloMosaic.PureOps.Ideal.Laws

@[expose] public section

set_option backward.proofsInPublic true
set_option maxRecDepth 16384

noncomputable section

namespace Cert.KernelIdealProof

open Cert.KernelIdeal Cert.KernelIdeal.Gen

open Idealize.ShloMosaic
open Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyFloat

variable {F : FTy → Type} [FloatOps F]
variable (m : (ℓ : Loc nD τ sig) → Buf (Elt F) ℓ) (ρ : Dev nD → PrngReg)

/-! ## The arrays at the end -/

/-- What is staged of the argument is the whole argument block. -/
theorem xstg_eq (c : Dev nD) : xstg m ρ c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) (m ((c : Thread nD τ).loc main_arg0))

theorem flushed_eq (c : Dev nD) (t : Fin cfg0.N) :
    (dats m ρ 0 c).flushed 1 t = ((cfg0.win 1).blk t).view.read (Elt F) (outC m ρ c) := by
  rw [fin_N t]
  have hz : (fun a => win0_1.index t₀ a * main_v1.ty.shape.size a) = fun _ => 0 := funext fun a => by fin_cases a <;> decide
  exact (Memref.read_access_unit_zero (Elt F) main_v1 hz (fun a => by rw [congrFun hz a]; simp) (outC m ρ c)).symm

/-- The result array ends holding `outC`. -/
theorem finalA_o (c : Dev nD) : finalA m ρ c (1 : Fin 2) = outC m ρ c :=
  (dats m ρ 0 c).arrAt_eq_of_cover 1 (outC m ρ c) (fun t _ => flushed_eq m ρ c t) fun i =>
    ⟨t₀, by decide, by
      show i ∈ ((View.whole main_v1).slice (win0_1.rect t₀)).set
      rw [View.set_slice_whole, Rect.mem_set_unit]
      intro a
      have h0 : (i 0 : Nat) < 1024 := (i 0).isLt
      have h1 : (i 1 : Nat) < 512 := (i 1).isLt
      match a with
      | ⟨0, _⟩ => show win0_1.index t₀ 0 * win0_1.size 0 ≤ (i 0 : Nat) ∧ (i 0 : Nat) < win0_1.index t₀ 0 * win0_1.size 0 + win0_1.xsize (grid0.coords t₀) 0
                  rw [show win0_1.index t₀ 0 * win0_1.size 0 = 0 from by decide +kernel, show win0_1.xsize (grid0.coords t₀) 0 = 1024 from by decide +kernel]; omega
      | ⟨1, _⟩ => show win0_1.index t₀ 1 * win0_1.size 1 ≤ (i 1 : Nat) ∧ (i 1 : Nat) < win0_1.index t₀ 1 * win0_1.size 1 + win0_1.xsize (grid0.coords t₀) 1
                  rw [show win0_1.index t₀ 1 * win0_1.size 1 = 0 from by decide +kernel, show win0_1.xsize (grid0.coords t₀) 1 = 512 from by decide +kernel]; omega⟩

/-- The run, read: the result array at `outC`, the argument unchanged. -/
theorem run : θ_run defs (onTc (τ := τ) (main (F := F))) ⟨m, fun _ => 0, ρ⟩ fun r => ∀ c : Dev nD,
      r.2.mem ((c : Thread nD τ).loc main_v1) = outC m ρ c
      ∧ r.2.mem ((c : Thread nD τ).loc main_arg0) = m ((c : Thread nD τ).loc main_arg0) :=
  (θ_run defs _ _).mono (fun _ h c => ⟨(h.1 c (1 : Fin 2)).trans (finalA_o m ρ c), (h.1 c (0 : Fin 2)).trans (finalA_x m ρ c)⟩)
    (run_main m ρ)

end AnyFloat

/-! ## Over the extended reals -/

/-- The whole argument's two blocks added, element by element. -/
def blockSum (X : (⟨3, ![2, 1024, 1024]⟩ : Shape).Idx → EReal) : (⟨2, ![1024, 1024]⟩ : Shape).Idx → EReal := fun j =>
  X (ix3 (n0 := 2) (n1 := 1024) (n2 := 1024) 0 (j 0) (j 1)) + X (ix3 (n0 := 2) (n1 := 1024) (n2 := 1024) 1 (j 0) (j 1))

section Ideal

variable (m : (ℓ : Loc nD τ sig) → Buf (Elt Ideal) ℓ) (ρ : Dev nD → PrngReg)
variable (X : (⟨3, ![2, 1024, 1024]⟩ : Shape).Idx → EReal)
variable (hm : ∀ c : Dev nD, m ((c : Thread nD τ).loc main_arg0)
  = Layout.blockN ⟨3, ![1, 1024, 1024]⟩ ⟨3, ![2, 1024, 1024]⟩ (Layout.meshBlock [2, 2] ![[0], [], []] c) X)

include hm in
/-- A device's argument block is block `c / 2` of the whole argument. -/
theorem xat_eq (c : Dev nD) (r j : Fin 1024) :
    (xat m ρ c r j : EReal) = X (ix3 (n0 := 2) (n1 := 1024) (n2 := 1024) ⟨c.val / 2, div_lt c⟩ r j) := by
  unfold xat
  rw [xstg_eq, hm]
  refine congrArg X (funext fun a => Fin.ext ?_)
  have h := div_lt c
  fin_cases a
  · show (Layout.meshLin [2, 2] c.val [0]) * 1 + 0 = c.val / 2
    revert c; decide
  · show 0 * 1024 + r.val = r.val; omega
  · show 0 * 1024 + j.val = j.val; omega

include hm in
/-- Each device's result is its block of the sum of the two blocks. -/
theorem outC_eq (c : Dev nD) :
    outC m ρ c = Layout.blockN ⟨2, ![1024, 512]⟩ ⟨2, ![1024, 1024]⟩ (Layout.meshBlock [2, 2] ![[], [0]] c) (blockSum X) := by
  funext j
  have hj : (j 1).val < 512 := (j 1).isLt
  have hh : ∀ d : Dev nD, d.val / 2 = c.val / 2 → ∀ r col : Fin 1024,
      (xat m ρ d r col + xat m ρ (xp d) r col : EReal) = blockSum X (ix2 (n0 := 1024) (n1 := 1024) r col) := by
    intro d hd r col
    rw [xat_eq m ρ X hm, xat_eq m ρ X hm]
    have e : ∀ q q' : Fin 2, q'.val = 1 - q.val →
        X (ix3 (n0 := 2) (n1 := 1024) (n2 := 1024) q r col) + X (ix3 (n0 := 2) (n1 := 1024) (n2 := 1024) q' r col) = blockSum X (ix2 (n0 := 1024) (n1 := 1024) r col) := by
      intro q q' hq
      fin_cases q
      · obtain rfl : q' = 1 := Fin.ext hq
        rfl
      · obtain rfl : q' = 0 := Fin.ext hq
        exact add_comm _ _
    exact e _ _ (xp_div d)
  have hd : (half c (j 1).val).val / 2 = c.val / 2 := by
    unfold half; split
    · rfl
    · exact yp_div c
  refine (hh _ hd (j 0) ⟨512 * (c.val / 2) + (j 1).val, by have := div_lt c; omega⟩).trans ?_
  refine congrArg (blockSum X) (funext fun a => Fin.ext ?_)
  have hlin : ∀ d : Dev nD, Layout.meshLin [2, 2] d.val [0] = d.val / 2 := by decide
  fin_cases a
  · show (j 0).val = 0 * 1024 + (j 0).val; omega
  · show 512 * (c.val / 2) + (j 1).val = (Layout.meshLin [2, 2] c.val [0]) * 512 + (j 1).val
    rw [hlin]; omega

end Ideal

end Cert.KernelIdealProof

namespace Cert.ReferenceIdeal.Value

open Cert.ReferenceIdeal Cert.ReferenceIdeal.Gen Idealize.ShloMosaic Idealize.ShloMosaic.ValueIdx

/-- Leaving out the first coordinate of `(k, j₀, j₁)` gives `(j₀, j₁)`; -/
theorem drop_cons (k : Fin 2) (j : S1024x1024.Idx) :
    reducesTo_S2x1024x1024_S1024x1024_d0.drop (ix3 (n0 := 2) (n1 := 1024) (n2 := 1024) k (j 0) (j 1)) = j := by
  funext b
  match b with
  | ⟨0, _⟩ => rfl
  | ⟨1, _⟩ => rfl

/-- and an index that gives `j` so is its first coordinate before `j`; -/
theorem eq_of_drop (i : S2x1024x1024.Idx) (j : S1024x1024.Idx) (h : reducesTo_S2x1024x1024_S1024x1024_d0.drop i = j) :
    ix3 (n0 := 2) (n1 := 1024) (n2 := 1024) (i 0) (j 0) (j 1) = i := by
  subst h
  funext a
  match a with
  | ⟨0, _⟩ => rfl
  | ⟨1, _⟩ => rfl
  | ⟨2, _⟩ => rfl

/-- so what the reference sums at `j` are the two elements above it. -/
def above (j : S1024x1024.Idx) : Fin 2 ↪ S2x1024x1024.Idx :=
  ⟨fun k => ix3 (n0 := 2) (n1 := 1024) (n2 := 1024) k (j 0) (j 1), fun k k' h => by have := congrFun h 0; exact this⟩

theorem filter_drop (j : S1024x1024.Idx) :
    Finset.univ.filter (fun i : S2x1024x1024.Idx => reducesTo_S2x1024x1024_S1024x1024_d0.drop i = j) = Finset.univ.map (above j) := by
  ext i
  simp only [Finset.mem_filter, Finset.mem_univ, true_and, Finset.mem_map, above]
  exact ⟨fun h => ⟨i 0, eq_of_drop i j h⟩, fun ⟨k, hk⟩ => hk ▸ drop_cons k j⟩

/-- The reference's result over the extended reals is the sum of the two blocks. -/
theorem ref_eq (X : S2x1024x1024.Idx → Ideal .bf16) :
    truncf (F := Ideal) .bf16 (Host.reduceAdd (extf .f32 X bitsLt_bf16_f32) (constant S_ .f32 0x00000000#32) reducesTo_S2x1024x1024_S1024x1024_d0 h_S_) bitsLt_bf16_f32
      = Cert.KernelIdealProof.blockSum X := by
  funext j
  have e : truncf (F := Ideal) .bf16 (Host.reduceAdd (extf .f32 X bitsLt_bf16_f32) (constant S_ .f32 0x00000000#32) reducesTo_S2x1024x1024_S1024x1024_d0 h_S_) bitsLt_bf16_f32 j
      = Ideal.hostReduceAdd reducesTo_S2x1024x1024_S1024x1024_d0 X (constant (F := Ideal) S_ .f32 0x00000000#32 (Shape.Idx.first h_S_)) j := rfl
  rw [e]
  unfold Ideal.hostReduceAdd
  rw [filter_drop, Finset.sum_map, Fin.sum_univ_two]
  have h0 : (constant (F := Ideal) S_ .f32 0x00000000#32) (Shape.Idx.first h_S_) = (0 : EReal) := Ideal.ofBits_zero_f32
  rw [h0, zero_add]
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.IdealValue
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts

/-- The kernel as printed runs, ends with its argument unchanged and every semaphore at zero; -/
theorem quiescent_kernel : Cert.quiescent_Kernel := by
  intro m ρ _
  exact (θ_run Cert.Kernel.defs _ _).mono (fun _ h => ⟨fun c => (h.1 c (0 : Fin 2)).trans (Cert.KernelProof.finalA_x m ρ c), h.2⟩)
    (Cert.KernelProof.run_main (F := Bits) m ρ)

/-- so does it over the extended reals; -/
theorem quiescent_kernelIdeal : Cert.quiescent_KernelIdeal := by
  intro m ρ _
  exact (θ_run Cert.KernelIdeal.defs _ _).mono (fun _ h => ⟨fun c => (h.1 c (0 : Fin 2)).trans (Cert.KernelIdealProof.finalA_x m ρ c), h.2⟩)
    (Cert.KernelIdealProof.run_main (F := Ideal) m ρ)

/-- so does the reference. -/
theorem quiescent_referenceIdeal : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals each device's result is its block of the reference's. -/
theorem algebraic : Cert.algebraic_KernelIdeal_ReferenceIdeal := by
  intro m ρ m' ρ' _ hm
  refine ⟨Cert.KernelIdealProof.blockSum (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c => ⟨(h c).1.trans (Cert.KernelIdealProof.outC_eq m ρ _ hm c), (h c).2⟩)
      (Cert.KernelIdealProof.run (F := Ideal) m ρ)
  · exact (θ_run Cert.ReferenceIdeal.defs _ _).mono (fun _ h => ⟨(h 0).1.trans (Cert.ReferenceIdeal.Value.ref_eq _), (h 0).2⟩)
      (Cert.ReferenceIdeal.Value.run (F := Ideal) m' ρ')

theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
